-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x7168 : Shape := ⟨3, ![1, 4096, 7168]⟩
abbrev S7168x10240 : Shape := ⟨2, ![7168, 10240]⟩
abbrev S10240 : Shape := ⟨1, ![10240]⟩
abbrev S4096x7168 : Shape := ⟨2, ![4096, 7168]⟩
abbrev S1x10240 : Shape := ⟨2, ![1, 10240]⟩
abbrev S4096x1 : Shape := ⟨2, ![4096, 1]⟩
abbrev S4096x5120 : Shape := ⟨2, ![4096, 5120]⟩
abbrev S512x7168 : Shape := ⟨2, ![512, 7168]⟩
abbrev S7168x256 : Shape := ⟨2, ![7168, 256]⟩
abbrev S1x256 : Shape := ⟨2, ![1, 256]⟩
abbrev S512x1 : Shape := ⟨2, ![512, 1]⟩
abbrev S512x5120 : Shape := ⟨2, ![512, 5120]⟩
abbrev S512x128 : Shape := ⟨2, ![512, 128]⟩
abbrev S512 : Shape := ⟨1, ![512]⟩
abbrev S512x256 : Shape := ⟨2, ![512, 256]⟩

abbrev nBuf : Space → Nat
  | .hbm => 9
  | .vmem => 20
  | .smem => 0
  | _ => 0

abbrev bufTy : (tb : Table) → Fin (tcTables nBuf tb) → BufTy
  | .hbm, ⟨0, _⟩ => ⟨S1x4096x7168, .bf16⟩
  | .hbm, ⟨1, _⟩ => ⟨S7168x10240, .fp8e4m3⟩
  | .hbm, ⟨2, _⟩ => ⟨S10240, .f32⟩
  | .hbm, ⟨3, _⟩ => ⟨S4096x7168, .bf16⟩
  | .hbm, ⟨4, _⟩ => ⟨S1x10240, .f32⟩
  | .hbm, ⟨5, _⟩ => ⟨S4096x1, .f32⟩
  | .hbm, ⟨6, _⟩ => ⟨S4096x5120, .fp8e4m3⟩
  | .hbm, ⟨7, _⟩ => ⟨S4096x7168, .fp8e4m3⟩
  | .hbm, ⟨8, _⟩ => ⟨S4096x1, .f32⟩
  | .local _ .vmem, ⟨0, _⟩ => ⟨S512x7168, .bf16⟩
  | .local _ .vmem, ⟨1, _⟩ => ⟨S512x7168, .bf16⟩
  | .local _ .vmem, ⟨2, _⟩ => ⟨S7168x256, .fp8e4m3⟩
  | .local _ .vmem, ⟨3, _⟩ => ⟨S7168x256, .fp8e4m3⟩
  | .local _ .vmem, ⟨4, _⟩ => ⟨S7168x256, .fp8e4m3⟩
  | .local _ .vmem, ⟨5, _⟩ => ⟨S7168x256, .fp8e4m3⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x1, .f32⟩
  | .local _ .vmem, ⟨11, _⟩ => ⟨S512x1, .f32⟩
  | .local _ .vmem, ⟨12, _⟩ => ⟨S512x5120, .fp8e4m3⟩
  | .local _ .vmem, ⟨13, _⟩ => ⟨S512x5120, .fp8e4m3⟩
  | .local _ .vmem, ⟨14, _⟩ => ⟨S512x7168, .fp8e4m3⟩
  | .local _ .vmem, ⟨15, _⟩ => ⟨S512x7168, .fp8e4m3⟩
  | .local _ .vmem, ⟨16, _⟩ => ⟨S512x1, .f32⟩
  | .local _ .vmem, ⟨17, _⟩ => ⟨S512x1, .f32⟩
  | .local _ .vmem, ⟨18, _⟩ => ⟨S512x5120, .f32⟩
  | .local _ .vmem, ⟨19, _⟩ => ⟨S512x128, .f32⟩
  | _, _ => ⟨S1x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 20], ![false, false]⟩

def k0_off1 (i : grid0.Coords) : Fin 2 → Nat :=
  let c0_13 : Index := 0#32
  let arg1 : BitVec 32 := BitVec.ofNat 32 (i 1).val
  let c256_i32 : BitVec 32 := 256#32
  let v26 : BitVec 32 := Scalar.muli arg1 c256_i32
  let v27 : Index := Scalar.indexCast v26
  ![0, v27.toNat]
def k0_cond2 (i : grid0.Coords) : BitVec 1 :=
  let arg1 : BitVec 32 := BitVec.ofNat 32 (i 1).val
  let c19_i32 : BitVec 32 := 19#32
  let v40 : BitVec 1 := Scalar.cmpi .eq arg1 c19_i32
  let v41 : BitVec 32 := Scalar.extui v40
  let c0_i32_18 : BitVec 32 := 0#32
  let v42 : BitVec 1 := Scalar.cmpi .ne v41 c0_i32_18
  v42

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S7168x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S7168x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S1x4096x7168 : Shape := ⟨3, ![1, 4096, 7168]⟩
abbrev S7168x10240 : Shape := ⟨2, ![7168, 10240]⟩
abbrev S10240 : Shape := ⟨1, ![10240]⟩
abbrev S4096x7168 : Shape := ⟨2, ![4096, 7168]⟩
abbrev S1x10240 : Shape := ⟨2, ![1, 10240]⟩
abbrev S4096x1 : Shape := ⟨2, ![4096, 1]⟩
abbrev S4096x5120 : Shape := ⟨2, ![4096, 5120]⟩
abbrev S4096 : Shape := ⟨1, ![4096]⟩
abbrev S4096x254 : Shape := ⟨2, ![4096, 254]⟩
abbrev S4096x10240 : Shape := ⟨2, ![4096, 10240]⟩

abbrev nBuf : Space → Nat
  | .hbm => 9
  | .vmem => 7
  | .smem => 0
  | _ => 0

abbrev bufTy : (tb : Table) → Fin (tcTables nBuf tb) → BufTy
  | .hbm, ⟨0, _⟩ => ⟨S1x4096x7168, .bf16⟩
  | .hbm, ⟨1, _⟩ => ⟨S7168x10240, .fp8e4m3⟩
  | .hbm, ⟨2, _⟩ => ⟨S10240, .f32⟩
  | .hbm, ⟨3, _⟩ => ⟨S4096x7168, .bf16⟩
  | .hbm, ⟨4, _⟩ => ⟨S1x10240, .f32⟩
  | .hbm, ⟨5, _⟩ => ⟨S4096x1, .f32⟩
  | .hbm, ⟨6, _⟩ => ⟨S4096x5120, .fp8e4m3⟩
  | .hbm, ⟨7, _⟩ => ⟨S4096x7168, .fp8e4m3⟩
  | .hbm, ⟨8, _⟩ => ⟨S4096x1, .f32⟩
  | .local _ .vmem, ⟨0, _⟩ => ⟨S4096x7168, .bf16⟩
  | .local _ .vmem, ⟨1, _⟩ => ⟨S7168x10240, .fp8e4m3⟩
  | .local _ .vmem, ⟨2, _⟩ => ⟨S1x10240, .f32⟩
  | .local _ .vmem, ⟨3, _⟩ => ⟨S4096x1, .f32⟩
  | .local _ .vmem, ⟨4, _⟩ => ⟨S4096x5120, .fp8e4m3⟩
  | .local _ .vmem, ⟨5, _⟩ => ⟨S4096x7168, .fp8e4m3⟩
  | .local _ .vmem, ⟨6, _⟩ => ⟨S4096x1, .f32⟩
  | _, _ => ⟨S1x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KRun.lean ====
module

public import proofs.«01_k».proof.Proof.Gen.Kernel.Frame
public import proofs.«01_k».proof.Proof.Gen.Kernel.Skeleton
public import Idealize.ShloMosaic.Lib.Pipeline.Frame
public import Idealize.ShloMosaic.Lib.VecWindow
public import Idealize.ShloMosaic.Lib.Tactic

/-! What one grid point of the kernel does to its windows and scratch buffers, in the three cases of its
    column counter: the first column block, one in the middle, the last one. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

/-- The scratch buffer that holds the activations of a block of rows. -/
abbrev scH : Memref sig .tc .vmem S512x5120 .f32 := Memref.whole cc0_scratch0
/-- The scratch buffer that holds the running lane maxima. -/
abbrev scM : Memref sig .tc .vmem S512x128 .f32 := Memref.whole cc0_scratch1

/-- The codes the first point of a row block makes of its block of `x`. -/
def qx (x0 : Vec F S512x7168 .bf16) : FVec F S512x7168 .fp8e4m3 :=
  k0_pay14 (k0_pay3 x0) (k0_pay9 (k0_pay6 (k0_pay4 x0) (k0_pay5 x0))) k0_pay10
/-- The scales the first point of a row block makes of its block of `x`. -/
def sx (x0 : Vec F S512x7168 .bf16) : FVec F S512x1 .f32 := k0_pay8 (k0_pay6 (k0_pay4 x0) (k0_pay5 x0))

variable (c : Dev nD) (i : grid0.Coords)
    (M0 : Memref sig .tc .vmem S512x7168 .bf16) (h0 : M0.IsWhole)
    (M1 : Memref sig .tc .vmem S7168x256 .fp8e4m3) (h1 : M1.IsWhole)
    (M2 : Memref sig .tc .vmem S7168x256 .fp8e4m3) (h2 : M2.IsWhole)
    (M3 : Memref sig .tc .vmem S1x256 .f32) (h3 : M3.IsWhole)
    (M4 : Memref sig .tc .vmem S1x256 .f32) (h4 : M4.IsWhole)
    (M5 : Memref sig .tc .vmem S512x1 .f32) (h5 : M5.IsWhole)
    (M6 : Memref sig .tc .vmem S512x5120 .fp8e4m3) (h6 : M6.IsWhole)
    (M7 : Memref sig .tc .vmem S512x7168 .fp8e4m3) (h7 : M7.IsWhole)
    (M8 : Memref sig .tc .vmem S512x1 .f32) (h8 : M8.IsWhole)
    (x0 : S512x7168.Idx → Elt F .bf16) (x1 : S7168x256.Idx → Elt F .fp8e4m3)
    (x2 : S7168x256.Idx → Elt F .fp8e4m3) (x3 : S1x256.Idx → Elt F .f32) (x4 : S1x256.Idx → Elt F .f32)
    (x5 : S512x1.Idx → Elt F .f32) (x6 : S512x5120.Idx → Elt F .fp8e4m3) (x7 : S512x7168.Idx → Elt F .fp8e4m3)
    (x8 : S512x1.Idx → Elt F .f32) (xH : S512x5120.Idx → Elt F .f32) (xM : S512x128.Idx → Elt F .f32)

/-- The nine staging buffers and the two scratch buffers, each at the contents named. -/
def Holds : sProp 𝕄 :=
    iprop(owns (c : Thread nD τ) M0 fullShare x0 ∗ owns (c : Thread nD τ) M1 fullShare x1
        ∗ owns (c : Thread nD τ) M2 fullShare x2 ∗ owns (c : Thread nD τ) M3 fullShare x3
        ∗ owns (c : Thread nD τ) M4 fullShare x4 ∗ owns (c : Thread nD τ) M5 fullShare x5
        ∗ owns (c : Thread nD τ) M6 fullShare x6 ∗ owns (c : Thread nD τ) M7 fullShare x7
        ∗ owns (c : Thread nD τ) M8 fullShare x8 ∗ owns (c : Thread nD τ) scH fullShare xH
        ∗ owns (c : Thread nD τ) scM fullShare xM)

/-- What the body leaves at the first point of a block of rows. -/
theorem runFirst (hc1 : k0_cond1 i = 1#1) (hc2 : ¬ k0_cond2 i = 1#1) (K : PUnit → sProp 𝕄) :
    iprop(Holds c M0 M1 M2 M3 M4 M5 M6 M7 M8 x0 x1 x2 x3 x4 x5 x6 x7 x8 xH xM
        ∗ (Holds c M0 M1 M2 M3 M4 M5 M6 M7 M8 x0 x1 x2 x3 x4 x5 x6 (qx x0) (sx x0) (VecWindow.put xH (k0_off1 i) S512x256.size (k0_pay17 (qx x0) (sx x0) x1 x2 x3 x4)) (k0_pay1 k0_pay15 (k0_pay18 (qx x0) (sx x0) x1 x2 x3 x4)) -∗ K ⟨⟩))
      ⊢ wp frame (wpE (defs₀ (F := F)) Variants.none c none) Set.univ
          (cc0_swiglu_up_fp8 i M0 h0 M1 h1 M2 h2 M3 h3 M4 h4 M5 h5 M6 h6 M7 h7 M8 h8 scH (Memref.isWhole_whole _) scM (Memref.isWhole_whole _)) K := by
  simp only [cc0_swiglu_up_fp8_eq_skeleton]; unfold cc0_swiglu_up_fp8_skel
  sl_open_parts
  unfold Holds owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fH, %eH, HH⟩, ⟨%fM, %eM, HM⟩⟩, Hk⟩
  sl_exec (disch := first | sl_exact hc1 | sl_exact hc2)
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; subst e0 e1 e2 e3 e4 e5 e6 e7 e8 eH eM
    try unfold qx
    try unfold sx
    repeat (first | delta runFirst.sl.v31 | delta runFirst.sl.HM_1 | delta runFirst.sl.v3 | delta runFirst.sl.v5 | delta runFirst.sl.H7_1 | delta runFirst.sl.H8_1 | rw [View.readAt_full] | rw [View.readCov_full] | rw [View.read_writes_full] | rw [View.readAt_writes_full] | rw [View.read_writes_cons_put _ _ _ _ _ rfl] | rw [View.writes_nil])
    try with_reducible rfl
  isplitl [H8]
  · iexists _; isplitr; swap; · iexact H8
    ipureintro; subst e0 e1 e2 e3 e4 e5 e6 e7 e8 eH eM
    try unfold qx
    try unfold sx
    repeat (first | delta runFirst.sl.v31 | delta runFirst.sl.HM_1 | delta runFirst.sl.v3 | delta runFirst.sl.v5 | delta runFirst.sl.H7_1 | delta runFirst.sl.H8_1 | rw [View.readAt_full] | rw [View.readCov_full] | rw [View.read_writes_full] | rw [View.readAt_writes_full] | rw [View.read_writes_cons_put _ _ _ _ _ rfl] | rw [View.writes_nil])
    try with_reducible rfl
  isplitl [HH]
  · iexists _; isplitr; swap; · iexact HH
    ipureintro; subst e0 e1 e2 e3 e4 e5 e6 e7 e8 eH eM
    try unfold qx
    try unfold sx
    repeat (first | delta runFirst.sl.v31 | delta runFirst.sl.HM_1 | delta runFirst.sl.v3 | delta runFirst.sl.v5 | delta runFirst.sl.H7_1 | delta runFirst.sl.H8_1 | rw [View.readAt_full] | rw [View.readCov_full] | rw [View.read_writes_full] | rw [View.readAt_writes_full] | rw [View.read_writes_cons_put _ _ _ _ _ rfl] | rw [View.writes_nil])
    try with_reducible rfl
  · iexists _; isplitr; swap; · iexact HM
    ipureintro; subst e0 e1 e2 e3 e4 e5 e6 e7 e8 eH eM
    try unfold qx
    try unfold sx
    repeat (first | delta runFirst.sl.v31 | delta runFirst.sl.HM_1 | delta runFirst.sl.v3 | delta runFirst.sl.v5 | delta runFirst.sl.H7_1 | delta runFirst.sl.H8_1 | rw [View.readAt_full] | rw [View.readCov_full] | rw [View.read_writes_full] | rw [View.readAt_writes_full] | rw [View.read_writes_cons_put _ _ _ _ _ rfl] | rw [View.writes_nil])
    try with_reducible rfl

/-- What the body leaves at the point in the middle of a block of rows. -/
theorem runMid (hc1 : ¬ k0_cond1 i = 1#1) (hc2 : ¬ k0_cond2 i = 1#1) (K : PUnit → sProp 𝕄) :
    iprop(Holds c M0 M1 M2 M3 M4 M5 M6 M7 M8 x0 x1 x2 x3 x4 x5 x6 x7 x8 xH xM
        ∗ (Holds c M0 M1 M2 M3 M4 M5 M6 M7 M8 x0 x1 x2 x3 x4 x5 x6 x7 x8 (VecWindow.put xH (k0_off1 i) S512x256.size (k0_pay17 x7 x8 x1 x2 x3 x4)) (k0_pay1 xM (k0_pay18 x7 x8 x1 x2 x3 x4)) -∗ K ⟨⟩))
      ⊢ wp frame (wpE (defs₀ (F := F)) Variants.none c none) Set.univ
          (cc0_swiglu_up_fp8 i M0 h0 M1 h1 M2 h2 M3 h3 M4 h4 M5 h5 M6 h6 M7 h7 M8 h8 scH (Memref.isWhole_whole _) scM (Memref.isWhole_whole _)) K := by
  simp only [cc0_swiglu_up_fp8_eq_skeleton]; unfold cc0_swiglu_up_fp8_skel
  sl_open_parts
  unfold Holds owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fH, %eH, HH⟩, ⟨%fM, %eM, HM⟩⟩, Hk⟩
  sl_exec (disch := first | sl_exact hc1 | sl_exact hc2)
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [HH]
  · iexists _; isplitr; swap; · iexact HH
    ipureintro; subst e0 e1 e2 e3 e4 e5 e6 e7 e8 eH eM
    repeat (first | rw [View.readAt_full] | rw [View.readCov_full] | rw [View.read_writes_full] | rw [View.readAt_writes_full] | rw [View.read_writes_cons_put _ _ _ _ _ rfl] | rw [View.writes_nil])
  · iexists _; isplitr; swap; · iexact HM
    ipureintro; subst e0 e1 e2 e3 e4 e5 e6 e7 e8 eH eM
    repeat (first | rw [View.readAt_full] | rw [View.readCov_full] | rw [View.read_writes_full] | rw [View.readAt_writes_full] | rw [View.read_writes_cons_put _ _ _ _ _ rfl] | rw [View.writes_nil])

/-- What the body leaves at the last point of a block of rows. -/
theorem runLast (hc1 : ¬ k0_cond1 i = 1#1) (hc2 : k0_cond2 i = 1#1) (K : PUnit → sProp 𝕄) :
    iprop(Holds c M0 M1 M2 M3 M4 M5 M6 M7 M8 x0 x1 x2 x3 x4 x5 x6 x7 x8 xH xM
        ∗ (Holds c M0 M1 M2 M3 M4 M5 M6 M7 M8 x0 x1 x2 x3 x4 (k0_pay12 (k0_pay1 xM (k0_pay18 x7 x8 x1 x2 x3 x4))) (k0_pay2 (k0_pay13 (k0_pay1 xM (k0_pay18 x7 x8 x1 x2 x3 x4))) 4294967169#32 128#32 (VecWindow.put xH (k0_off1 i) S512x256.size (k0_pay17 x7 x8 x1 x2 x3 x4))) x7 x8 (VecWindow.put xH (k0_off1 i) S512x256.size (k0_pay17 x7 x8 x1 x2 x3 x4)) (k0_pay1 xM (k0_pay18 x7 x8 x1 x2 x3 x4)) -∗ K ⟨⟩))
      ⊢ wp frame (wpE (defs₀ (F := F)) Variants.none c none) Set.univ
          (cc0_swiglu_up_fp8 i M0 h0 M1 h1 M2 h2 M3 h3 M4 h4 M5 h5 M6 h6 M7 h7 M8 h8 scH (Memref.isWhole_whole _) scM (Memref.isWhole_whole _)) K := by
  simp only [cc0_swiglu_up_fp8_eq_skeleton]; unfold cc0_swiglu_up_fp8_skel
  sl_open_parts
  unfold Holds owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fH, %eH, HH⟩, ⟨%fM, %eM, HM⟩⟩, Hk⟩
  sl_exec (disch := first | sl_exact hc1 | sl_exact hc2)
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; subst e0 e1 e2 e3 e4 e5 e6 e7 e8 eH eM
    repeat (first | delta runLast.sl.v43 | delta runLast.sl.HM_1 | delta runLast.sl.HH_1 | rw [View.readAt_full] | rw [View.readCov_full] | rw [View.read_writes_full] | rw [View.readAt_writes_full] | rw [View.read_writes_cons_put _ _ _ _ _ rfl] | rw [View.writes_nil])
  isplitl [H6]
  · iexists _; isplitr; swap; · iexact H6
    ipureintro; subst e0 e1 e2 e3 e4 e5 e6 e7 e8 eH eM
    repeat (first | delta runLast.sl.v43 | delta runLast.sl.HM_1 | delta runLast.sl.HH_1 | rw [View.readAt_full] | rw [View.readCov_full] | rw [View.read_writes_full] | rw [View.readAt_writes_full] | rw [View.read_writes_cons_put _ _ _ _ _ rfl] | rw [View.writes_nil])
  isplitl [H7]
  · iexists _; isplitr; swap; · iexact H7
    ipureintro; exact e7
  isplitl [H8]
  · iexists _; isplitr; swap; · iexact H8
    ipureintro; exact e8
  isplitl [HH]
  · iexists _; isplitr; swap; · iexact HH
    ipureintro; subst e0 e1 e2 e3 e4 e5 e6 e7 e8 eH eM
    repeat (first | delta runLast.sl.v43 | delta runLast.sl.HM_1 | delta runLast.sl.HH_1 | rw [View.readAt_full] | rw [View.readCov_full] | rw [View.read_writes_full] | rw [View.readAt_writes_full] | rw [View.read_writes_cons_put _ _ _ _ _ rfl] | rw [View.writes_nil])
  · iexists _; isplitr; swap; · iexact HM
    ipureintro; subst e0 e1 e2 e3 e4 e5 e6 e7 e8 eH eM
    repeat (first | delta runLast.sl.v43 | delta runLast.sl.HM_1 | delta runLast.sl.HH_1 | rw [View.readAt_full] | rw [View.readCov_full] | rw [View.read_writes_full] | rw [View.readAt_writes_full] | rw [View.read_writes_cons_put _ _ _ _ _ rfl] | rw [View.writes_nil])

end Cert.Kernel.Hand
end
-- ==== Proof.KBody.lean ====
module

public import proofs.«01_k».proof.Proof.KRun
public import Idealize.ShloMosaic.Lib.Pipeline.DatRel
public import Idealize.ShloMosaic.Lib.Pipeline.ArrRel

/-! The kernel's grid, point by point: what each output window and each scratch buffer holds after a point,
    and the run of the whole program that follows from it. -/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## Where a point lies in the grid -/

theorem cond1_iff : ∀ t : Fin grid0.N, k0_cond1 (grid0.coords t) = 1#1 ↔ t.val % 20 = 0 := by decide +kernel
theorem cond2_iff : ∀ t : Fin grid0.N, k0_cond2 (grid0.coords t) = 1#1 ↔ t.val % 20 = 19 := by decide +kernel
theorem off1_eq : ∀ t : Fin grid0.N, k0_off1 (grid0.coords t) = ![0, 256 * (t.val % 20)] := by decide +kernel

/-- The first point of the row block that point `t` works on. -/
def first (t : Fin cfg0.N) : Fin cfg0.N := ⟨20 * (t.val / 20), by have := t.isLt; have h : cfg0.N = 160 := N_0; omega⟩

theorem first_eq {t : Fin cfg0.N} (h : t.val % 20 = 0) : first t = t := Fin.ext (by show 20 * (t.val / 20) = t.val; omega)
theorem first_congr {s t : Fin cfg0.N} (h : s.val / 20 = t.val / 20) : first s = first t := Fin.ext (by show 20 * (s.val / 20) = 20 * (t.val / 20); omega)

/-! ## What the points compute -/

/-- The block of `x` that point `t` works on. -/
def xb (c : Dev nD) (t : Fin cfg0.N) : Vec F S512x7168 .bf16 := iblk m c 0 t
/-- The gate's block of the weights at point `t`. -/
def wgb (c : Dev nD) (t : Fin cfg0.N) : Vec F S7168x256 .fp8e4m3 := iblk m c 1 t
/-- The up projection's block of the weights at point `t`. -/
def wub (c : Dev nD) (t : Fin cfg0.N) : Vec F S7168x256 .fp8e4m3 := iblk m c 2 t
/-- The gate's block of the weight scales at point `t`. -/
def sgb (c : Dev nD) (t : Fin cfg0.N) : Vec F S1x256 .f32 := iblk m c 3 t
/-- The up projection's block of the weight scales at point `t`. -/
def sub (c : Dev nD) (t : Fin cfg0.N) : Vec F S1x256 .f32 := iblk m c 4 t

/-- The codes of the rows of point `t`. -/
def XC (c : Dev nD) (t : Fin cfg0.N) : FVec F S512x7168 .fp8e4m3 := qx (xb m c (first t))
/-- The scales of the rows of point `t`. -/
def XS (c : Dev nD) (t : Fin cfg0.N) : FVec F S512x1 .f32 := sx (xb m c (first t))
/-- The tile of activations that point `t` computes. -/
def HB (c : Dev nD) (t : Fin cfg0.N) : FVec F S512x256 .f32 :=
  k0_pay17 (XC m c t) (XS m c t) (wgb m c t) (wub m c t) (sgb m c t) (sub m c t)
/-- The lane maxima of the tile of point `t`. -/
def MB (c : Dev nD) (t : Fin cfg0.N) : FVec F S512x128 .f32 :=
  k0_pay18 (XC m c t) (XS m c t) (wgb m c t) (wub m c t) (sgb m c t) (sub m c t)
/-- The running lane maxima after `n` points (started anew at each row block). -/
def MX (c : Dev nD) : ℕ → FVec F S512x128 .f32
  | 0 => k0_pay15
  | n + 1 => if h : n < cfg0.N then k0_pay1 (if n % 20 = 0 then k0_pay15 else MX c n) (MB m c ⟨n, h⟩) else k0_pay15

theorem MX_succ (c : Dev nD) (t : Fin cfg0.N) :
    MX m c (t.val + 1) = k0_pay1 (if t.val % 20 = 0 then k0_pay15 else MX m c t.val) (MB m c t) := by
  rw [MX, dif_pos t.isLt]

/-- The activations' buffer, the points of the row block of `n` before `n` done: it holds their tiles. -/
def InvH (c : Dev nD) (n : ℕ) (xH : S512x5120.Idx → Elt F .f32) : Prop :=
  ∀ s : Fin cfg0.N, s.val / 20 = n / 20 → s.val < n →
    VecWindow.window xH (k0_off1 (grid0.coords s)) S512x256.size (k0_off1_inb (grid0.coords s)) = HB m c s

/-- The activations' buffer after point `t`: it holds the tiles of the row block of `t` up to `t`. -/
def DoneH (c : Dev nD) (t : Fin cfg0.N) (xH : S512x5120.Idx → Elt F .f32) : Prop :=
  ∀ s : Fin cfg0.N, s.val / 20 = t.val / 20 → s.val ≤ t.val →
    VecWindow.window xH (k0_off1 (grid0.coords s)) S512x256.size (k0_off1_inb (grid0.coords s)) = HB m c s

theorem doneH_put (c : Dev nD) (t : Fin cfg0.N) (xH : S512x5120.Idx → Elt F .f32) (h : InvH m c t.val xH) :
    DoneH m c t (VecWindow.put xH (k0_off1 (grid0.coords t)) S512x256.size (HB m c t)) := fun s hs hle => by
  by_cases hst : s = t
  · subst hst; exact VecWindow.window_put_same _ _ _ _ _
  · have hne : s.val ≠ t.val := fun e => hst (Fin.ext e)
    rw [VecWindow.window_put_of_disjoint _ _ _ _ _ _ _ (1 : Fin 2) (by
      rw [off1_eq, off1_eq]; show 256 * (s.val % 20) + 256 ≤ 256 * (t.val % 20) ∨ 256 * (t.val % 20) + 256 ≤ 256 * (s.val % 20)
      omega)]
    exact h s hs (by omega)

theorem invH_of_done (c : Dev nD) (t : Fin cfg0.N) (xH : S512x5120.Idx → Elt F .f32) (h : DoneH m c t xH) :
    InvH m c (t.val + 1) xH := fun s hs hlt => h s (by omega) (by omega)

/-- The same, the tile spelled as the body computes it from the codes and scales `q`, `s` it finds or makes. -/
theorem doneH_put' (c : Dev nD) (t : Fin cfg0.N) (xH : S512x5120.Idx → Elt F .f32) (h : InvH m c t.val xH)
    {q : FVec F S512x7168 .fp8e4m3} {s : FVec F S512x1 .f32} (hq : q = XC m c t) (hs : s = XS m c t) :
    DoneH m c t (VecWindow.put xH (k0_off1 (grid0.coords t)) S512x256.size
      (k0_pay17 q s (iblk m c 1 t) (iblk m c 2 t) (iblk m c 3 t) (iblk m c 4 t))) := by
  subst hq hs; exact doneH_put m c t xH h

/-! ## The proof data -/

/-- The windows held to a predicate: the four results. -/
def fgt0 : Fin 9 → Bool := ![false, false, false, false, false, true, true, true, true]

/-- What each result's staging buffer holds after point `t`: the codes and the scales of `x` from the first point of
    the row block on, those of the activations from its last point. -/
def Rl (c : Dev nD) (w : Fin cfg0.W) (t : Fin cfg0.N) : ((cfg0.win w).block.Idx → Elt F (cfg0.win w).elt) → Prop :=
  match w with
  | 0 | 1 | 2 | 3 | 4 => fun _ => True
  | 5 => fun X => t.val % 20 = 19 → X = k0_pay12 (MX m c (t.val + 1))
  | 6 => fun X => t.val % 20 = 19 → ∃ xH, DoneH m c t xH ∧ X = k0_pay2 (k0_pay13 (MX m c (t.val + 1))) 4294967169#32 128#32 xH
  | 7 => fun X => X = XC m c t
  | 8 => fun X => X = XS m c t

/-- What the scratch buffers hold before point `n`, with the generator register. -/
def Φ0 (c : Dev nD) (n : ℕ) : sProp 𝕄 :=
  iprop(∃ xH : S512x5120.Idx → Elt F .f32, ∃ xM : S512x128.Idx → Elt F .f32,
    ⌜InvH m c n xH ∧ (n % 20 ≠ 0 → xM = MX m c n)⌝
      ∗ owns (c : Thread nD τ) scH fullShare xH ∗ owns (c : Thread nD τ) scM fullShare xM ∗ (∃ r, prngReg c r))

/-- The proof data on core `c`: the arrays as the region finds them, the inputs' blocks left in place, the scratch invariant. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => Pipeline.Dat.unnamed (cfg := cfg0) 5 t
    | 6 => Pipeline.Dat.unnamed (cfg := cfg0) 6 t
    | 7 => Pipeline.Dat.unnamed (cfg := cfg0) 7 t
    | 8 => Pipeline.Dat.unnamed (cfg := cfg0) 8 t
  Φ t := Φ0 m c t.val
  q w := Pipeline.shareOf spec0 w
  owed _ := 0

theorem A_eq (c : Dev nD) (w : Fin cfg0.W) : (dats m 0 c).A w = V m c (Pipeline.arrRef spec0 w) := by dsimp only [dats]

/-- The relational data: the exact data with the results held to `Rl`. -/
abbrev rdat (c : Dev nD) : RDat τ (Elt F) Unit ℕ (UR sig nD τ) ℕ cfg0 c := (dats m 0 c).toRRel fgt0 (Rl m c)

/-- Between two points of one row block the codes of `x` are still in their staging buffer. -/
theorem finds7 (c : Dev nD) (t : Fin cfg0.N) (ht : t.val % 20 ≠ 0) (Y : S512x7168.Idx → Elt F .fp8e4m3)
    (h : (rdat m c).Finds 7 t Y) : Y = XC m c t := by
  unfold RDat.Finds at h
  rw [if_neg (by exact Bool.false_ne_true), if_neg (by omega)] at h
  dsimp only at h
  rw [if_neg (by rw [flush0_7]; show ¬ (t.val - 1) % 20 = 19; omega)] at h
  obtain ⟨Y', -, h⟩ := h
  have h' : Y = XC m c ⟨t.val - 1, by omega⟩ := h
  rw [h']; unfold XC
  rw [first_congr (s := ⟨t.val - 1, by omega⟩) (t := t) (by show (t.val - 1) / 20 = t.val / 20; omega)]

/-- Between two points of one row block the scales of `x` are still in their staging buffer. -/
theorem finds8 (c : Dev nD) (t : Fin cfg0.N) (ht : t.val % 20 ≠ 0) (Y : S512x1.Idx → Elt F .f32)
    (h : (rdat m c).Finds 8 t Y) : Y = XS m c t := by
  unfold RDat.Finds at h
  rw [if_neg (by exact Bool.false_ne_true), if_neg (by omega)] at h
  dsimp only at h
  rw [if_neg (by rw [flush0_8]; show ¬ (t.val - 1) % 20 = 19; omega)] at h
  obtain ⟨Y', -, h⟩ := h
  have h' : Y = XS m c ⟨t.val - 1, by omega⟩ := h
  rw [h']; unfold XS
  rw [first_congr (s := ⟨t.val - 1, by omega⟩) (t := t) (by show (t.val - 1) / 20 = t.val / 20; omega)]

/-- Window 0's staging memref at point `t`. -/
abbrev ms0 (t : Fin cfg0.N) : Memref sig .tc .vmem S512x7168 .bf16 := win0_0.stage (cfg0.slots t 0)
abbrev hs0 (t : Fin cfg0.N) : (ms0 t).IsWhole := hstage0_0 ((cfg0.slots t 0).cast nbuf0_0)
/-- Window 1's staging memref at point `t`. -/
abbrev ms1 (t : Fin cfg0.N) : Memref sig .tc .vmem S7168x256 .fp8e4m3 := win0_1.stage (cfg0.slots t 1)
abbrev hs1 (t : Fin cfg0.N) : (ms1 t).IsWhole := hstage0_1 ((cfg0.slots t 1).cast nbuf0_1)
/-- Window 2's staging memref at point `t`. -/
abbrev ms2 (t : Fin cfg0.N) : Memref sig .tc .vmem S7168x256 .fp8e4m3 := win0_2.stage (cfg0.slots t 2)
abbrev hs2 (t : Fin cfg0.N) : (ms2 t).IsWhole := hstage0_2 ((cfg0.slots t 2).cast nbuf0_2)
/-- Window 3's staging memref at point `t`. -/
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
/-- Window 4's staging memref at point `t`. -/
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
/-- Window 5's staging memref at point `t`. -/
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
/-- Window 6's staging memref at point `t`. -/
abbrev ms6 (t : Fin cfg0.N) : Memref sig .tc .vmem S512x5120 .fp8e4m3 := win0_6.stage (cfg0.slots t 6)
abbrev hs6 (t : Fin cfg0.N) : (ms6 t).IsWhole := hstage0_6 ((cfg0.slots t 6).cast nbuf0_6)
/-- Window 7's staging memref at point `t`. -/
abbrev ms7 (t : Fin cfg0.N) : Memref sig .tc .vmem S512x7168 .fp8e4m3 := win0_7.stage (cfg0.slots t 7)
abbrev hs7 (t : Fin cfg0.N) : (ms7 t).IsWhole := hstage0_7 ((cfg0.slots t 7).cast nbuf0_7)
/-- Window 8's staging memref at point `t`. -/
abbrev ms8 (t : Fin cfg0.N) : Memref sig .tc .vmem S512x1 .f32 := win0_8.stage (cfg0.slots t 8)
abbrev hs8 (t : Fin cfg0.N) : (ms8 t).IsWhole := hstage0_8 ((cfg0.slots t 8).cast nbuf0_8)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ Y, ⌜(rdat m c).Finds 5 t Y⌝ ∗ owns (c : Thread nD τ) (ms5 t) fullShare Y)
    ∗ (∃ Y, ⌜(rdat m c).Finds 6 t Y⌝ ∗ owns (c : Thread nD τ) (ms6 t) fullShare Y)
    ∗ (∃ Y, ⌜(rdat m c).Finds 7 t Y⌝ ∗ owns (c : Thread nD τ) (ms7 t) fullShare Y)
    ∗ (∃ Y, ⌜(rdat m c).Finds 8 t Y⌝ ∗ owns (c : Thread nD τ) (ms8 t) fullShare Y))
/-- What the body returns at point `t`. -/
def bodyPost (c : Dev nD) (t : Fin cfg0.N) : sProp 𝕄 :=
  iprop((dats m 0 c).Φ t.succ ∗ (dats m 0 c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ X, ⌜Rl m c 5 t X⌝ ∗ owns (c : Thread nD τ) (ms5 t) fullShare X)
    ∗ (∃ X, ⌜Rl m c 6 t X⌝ ∗ owns (c : Thread nD τ) (ms6 t) fullShare X)
    ∗ (∃ X, ⌜Rl m c 7 t X⌝ ∗ owns (c : Thread nD τ) (ms7 t) fullShare X)
    ∗ (∃ X, ⌜Rl m c 8 t X⌝ ∗ owns (c : Thread nD τ) (ms8 t) fullShare X))

set_option maxHeartbeats 1600000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl,
    show (dats m 0 c).Φ t.castSucc = Φ0 m c t.val from rfl, show (dats m 0 c).Φ t.succ = Φ0 m c (t.val + 1) from rfl]
  simp only [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl)]
  unfold Φ0
  iintro ⟨⟨%xH, %xM, %hI, HH, HM, Hg⟩, HO, ⟨%d0, H0⟩, ⟨%d1, H1⟩, ⟨%d2, H2⟩, ⟨%d3, H3⟩, ⟨%d4, H4⟩, ⟨%x5, %e5, H5⟩, ⟨%x6, %e6, H6⟩, ⟨%x7, %e7, H7⟩, ⟨%x8, %e8, H8⟩⟩
  obtain ⟨hI, hX⟩ := hI
  have hN : t.val < 160 := Nat.lt_of_lt_of_eq t.isLt N_0
  by_cases hf : t.val % 20 = 0
  · have hq : qx (xb m c t) = XC m c t := by unfold XC; rw [first_eq hf]
    have hs : sx (xb m c t) = XS m c t := by unfold XS; rw [first_eq hf]
    have hMX := MX_succ m c t
    rw [if_pos hf] at hMX
    iapply (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (iblk m c 4 t) x5 x6 x7 x8 xH xM ((cond1_iff t).mpr hf) (fun e => by have := (cond2_iff t).mp e; omega) _)
    unfold Holds
    isplitl [H0 H1 H2 H3 H4 H5 H6 H7 H8 HH HM]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HH]; · iexact HH
      iexact HM
    iintro ⟨H0, H1, H2, H3, H4, H5, H6, H7, H8, HH, HM⟩
    isplitl [HH HM Hg]
    · iexists _, _
      isplitr; swap
      · isplitl [HH]; · iexact HH
        isplitl [HM]; · iexact HM
        iexact Hg
      ipureintro
      exact ⟨invH_of_done m c t _ (doneH_put' m c t xH hI hq hs), fun _ => (by rw [hMX]; unfold MB; rw [← hq, ← hs]; rfl)⟩
    isplitl [HO]; · iexact HO
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact fun e => absurd (show t.val % 20 = 19 from e) (by omega)
    isplitl [H6]
    · iexists _; isplitr; swap; · iexact H6
      ipureintro; exact fun e => absurd (show t.val % 20 = 19 from e) (by omega)
    isplitl [H7]
    · iexists _; isplitr; swap; · iexact H7
      ipureintro; exact hq
    iexists _; isplitr; swap; · iexact H8
    ipureintro; exact hs
  · by_cases hl : t.val % 20 = 19
    · have h7 := finds7 m c t hf x7 e7
      have h8 := finds8 m c t hf x8 e8
      have hM := hX hf
      subst h7 h8 hM
      have hMX := MX_succ m c t
      rw [if_neg hf] at hMX
      iapply (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (iblk m c 4 t) x5 x6 (XC m c t) (XS m c t) xH (MX m c t.val) (fun e => hf ((cond1_iff t).mp e)) ((cond2_iff t).mpr hl) _)
      unfold Holds
      isplitl [H0 H1 H2 H3 H4 H5 H6 H7 H8 HH HM]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HH]; · iexact HH
        iexact HM
      iintro ⟨H0, H1, H2, H3, H4, H5, H6, H7, H8, HH, HM⟩
      isplitl [HH HM Hg]
      · iexists _, _
        isplitr; swap
        · isplitl [HH]; · iexact HH
          isplitl [HM]; · iexact HM
          iexact Hg
        ipureintro
        exact ⟨invH_of_done m c t _ (doneH_put' m c t xH hI rfl rfl), fun _ => hMX.symm⟩
      isplitl [HO]; · iexact HO
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact fun _ => congrArg k0_pay12 hMX.symm
      isplitl [H6]
      · iexists _; isplitr; swap; · iexact H6
        ipureintro; exact fun _ => ⟨_, doneH_put' m c t xH hI rfl rfl, by rw [hMX]; rfl⟩
      isplitl [H7]
      · iexists _; isplitr; swap; · iexact H7
        ipureintro; exact rfl
      iexists _; isplitr; swap; · iexact H8
      ipureintro; exact rfl
    · have h7 := finds7 m c t hf x7 e7
      have h8 := finds8 m c t hf x8 e8
      have hM := hX hf
      subst h7 h8 hM
      have hMX := MX_succ m c t
      rw [if_neg hf] at hMX
      iapply (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (iblk m c 4 t) x5 x6 (XC m c t) (XS m c t) xH (MX m c t.val) (fun e => hf ((cond1_iff t).mp e)) (fun e => hl ((cond2_iff t).mp e)) _)
      unfold Holds
      isplitl [H0 H1 H2 H3 H4 H5 H6 H7 H8 HH HM]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HH]; · iexact HH
        iexact HM
      iintro ⟨H0, H1, H2, H3, H4, H5, H6, H7, H8, HH, HM⟩
      isplitl [HH HM Hg]
      · iexists _, _
        isplitr; swap
        · isplitl [HH]; · iexact HH
          isplitl [HM]; · iexact HM
          iexact Hg
        ipureintro
        exact ⟨invH_of_done m c t _ (doneH_put' m c t xH hI rfl rfl), fun _ => hMX.symm⟩
      isplitl [HO]; · iexact HO
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact fun e => absurd (show t.val % 20 = 19 from e) (by omega)
      isplitl [H6]
      · iexists _; isplitr; swap; · iexact H6
        ipureintro; exact fun e => absurd (show t.val % 20 = 19 from e) (by omega)
      isplitl [H7]
      · iexists _; isplitr; swap; · iexact H7
        ipureintro; exact rfl
      iexists _; isplitr; swap; · iexact H8
      ipureintro; exact rfl

theorem defs₀_row (t : Fin cfg0.N) : defs₀ (F := F) .tc cfg0.body (cfg0.bodyArgs t (cfg0.slots t)) = bodyAt0 t := by
  unfold defs₀; rw [Defs.onTc_tc]

/-- The library's body obligation, the results held to `Rl`. -/
theorem body_obligation (c : Dev nD) :
    BodyObligationRel (dats (F := F) m 0 c) (defs₀ (F := F)) Variants.none () Set.univ fgt0 (Rl m c) := fun t => by
  rw [bigSep_W0, bigSep_W0, defs₀_row]
  exact triple_restated (sound_body m c t) rfl .rfl fun _ => .rfl

/-! ## The launch -/

theorem PhiA0_eq (c : Dev nD) :
    (Pipeline.ΦA spec0 c : sProp 𝕄)
      = iprop(((∃ d, owns (c : Thread nD τ) scH fullShare d) ∗ (∃ d, owns (c : Thread nD τ) scM fullShare d)) ∗ (∃ r, prngReg c r)) := by
  unfold Pipeline.ΦA; rw [scopedRest0_eq]; simp only [scH, scM, owns_whole]; try rfl

theorem hin (c : Dev nD) : (Pipeline.ΦA spec0 c : sProp 𝕄) ⊢ (rdat m c).Φ 0 := by
  rw [PhiA0_eq]; show _ ⊢ Φ0 m c 0; unfold Φ0
  iintro ⟨⟨⟨%dH, HH⟩, ⟨%dM, HM⟩⟩, Hg⟩
  iexists dH, dM
  isplitr
  · ipureintro; exact ⟨fun s _ h => absurd h (by omega), fun h => absurd rfl h⟩
  isplitl [HH]; · iexact HH
  isplitl [HM]; · iexact HM
  iexact Hg

theorem hout (c : Dev nD) : (rdat m c).Φ (Fin.last cfg0.N) ⊢ (Pipeline.ΦA spec0 c : sProp 𝕄) := by
  rw [PhiA0_eq]; show Φ0 m c cfg0.N ⊢ _; unfold Φ0
  iintro ⟨%xH, %xM, -, HH, HM, Hg⟩
  isplitl [HH HM]
  · isplitl [HH]; · iexists _; iexact HH
    iexists _; iexact HM
  iexact Hg

set_option backward.isDefEq.respectTransparency.types false in
/-- From any memory with zero counters every weakly fair execution of the program terminates, its results as the proof
    data say, the other arrays as the region found them, every semaphore at zero. -/
theorem run_main :
    θ_run defs (onTc (τ := τ) (main (F := F))) (s₀ m ρ)
      (fun r => RDat.FramePost (cfgs 0) (rdat m) (V m) r ∧ r.2.sem = fun _ => 0) :=
  RDat.θ_run_frame_track_shared (Q' := _) cfgs (0 : Fin 1) launch₀0 defs₀ Variants.none (rdat m) m ρ main
    (hbody := fun c => (body_obligation m c).toRRel) (hq := fun _ _ _ => rfl) (howed := fun _ _ => rfl) (V := V m)
    (hmain := hmain m Variants.none) (hA := fun c w => A_eq m c w) (hin := hin m) (hout := hout m)
    (hQ' := fun _ h => h)

variable {m}

/-- After the run the arguments hold what they held at launch. -/
theorem args_kept {r : PUnit × MemSt nD τ sig (Elt F)} (h : RDat.FramePost (cfgs 0) (rdat m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).2 main_arg0 (Pipeline.mem_restRefs_of main_arg0 (by decide) (by decide))).trans (V_main_arg0 m c),
   (RDat.FramePost.arr_in h c 2 rfl).trans (V_main_arg1 m c),
   ((h c).2 main_arg2 (Pipeline.mem_restRefs_of main_arg2 (by decide) (by decide))).trans (V_main_arg2 m c)⟩

end Cert.Kernel.Hand
end
-- ==== Proof.KiRun.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.VecWindow
public import Idealize.ShloMosaic.Lib.Tactic

/-! What one grid point of the kernel does to its windows and scratch buffers, in the three cases of its
    column counter: the first column block, one in the middle, the last one. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- The scratch buffer that holds the activations of a block of rows. -/
abbrev scH : Memref sig .tc .vmem S512x5120 .f32 := Memref.whole cc0_scratch0
/-- The scratch buffer that holds the running lane maxima. -/
abbrev scM : Memref sig .tc .vmem S512x128 .f32 := Memref.whole cc0_scratch1

/-- The codes the first point of a row block makes of its block of `x`. -/
def qx (x0 : Vec F S512x7168 .bf16) : FVec F S512x7168 .fp8e4m3 :=
  k0_pay14 (k0_pay3 x0) (k0_pay9 (k0_pay6 (k0_pay4 x0) (k0_pay5 x0))) k0_pay10
/-- The scales the first point of a row block makes of its block of `x`. -/
def sx (x0 : Vec F S512x7168 .bf16) : FVec F S512x1 .f32 := k0_pay8 (k0_pay6 (k0_pay4 x0) (k0_pay5 x0))

variable (c : Dev nD) (i : grid0.Coords)
    (M0 : Memref sig .tc .vmem S512x7168 .bf16) (h0 : M0.IsWhole)
    (M1 : Memref sig .tc .vmem S7168x256 .fp8e4m3) (h1 : M1.IsWhole)
    (M2 : Memref sig .tc .vmem S7168x256 .fp8e4m3) (h2 : M2.IsWhole)
    (M3 : Memref sig .tc .vmem S1x256 .f32) (h3 : M3.IsWhole)
    (M4 : Memref sig .tc .vmem S1x256 .f32) (h4 : M4.IsWhole)
    (M5 : Memref sig .tc .vmem S512x1 .f32) (h5 : M5.IsWhole)
    (M6 : Memref sig .tc .vmem S512x5120 .fp8e4m3) (h6 : M6.IsWhole)
    (M7 : Memref sig .tc .vmem S512x7168 .fp8e4m3) (h7 : M7.IsWhole)
    (M8 : Memref sig .tc .vmem S512x1 .f32) (h8 : M8.IsWhole)
    (x0 : S512x7168.Idx → Elt F .bf16) (x1 : S7168x256.Idx → Elt F .fp8e4m3)
    (x2 : S7168x256.Idx → Elt F .fp8e4m3) (x3 : S1x256.Idx → Elt F .f32) (x4 : S1x256.Idx → Elt F .f32)
    (x5 : S512x1.Idx → Elt F .f32) (x6 : S512x5120.Idx → Elt F .fp8e4m3) (x7 : S512x7168.Idx → Elt F .fp8e4m3)
    (x8 : S512x1.Idx → Elt F .f32) (xH : S512x5120.Idx → Elt F .f32) (xM : S512x128.Idx → Elt F .f32)

/-- The nine staging buffers and the two scratch buffers, each at the contents named. -/
def Holds : sProp 𝕄 :=
    iprop(owns (c : Thread nD τ) M0 fullShare x0 ∗ owns (c : Thread nD τ) M1 fullShare x1
        ∗ owns (c : Thread nD τ) M2 fullShare x2 ∗ owns (c : Thread nD τ) M3 fullShare x3
        ∗ owns (c : Thread nD τ) M4 fullShare x4 ∗ owns (c : Thread nD τ) M5 fullShare x5
        ∗ owns (c : Thread nD τ) M6 fullShare x6 ∗ owns (c : Thread nD τ) M7 fullShare x7
        ∗ owns (c : Thread nD τ) M8 fullShare x8 ∗ owns (c : Thread nD τ) scH fullShare xH
        ∗ owns (c : Thread nD τ) scM fullShare xM)

/-- What the body leaves at the first point of a block of rows. -/
theorem runFirst (hc1 : k0_cond1 i = 1#1) (hc2 : ¬ k0_cond2 i = 1#1) (K : PUnit → sProp 𝕄) :
    iprop(Holds c M0 M1 M2 M3 M4 M5 M6 M7 M8 x0 x1 x2 x3 x4 x5 x6 x7 x8 xH xM
        ∗ (Holds c M0 M1 M2 M3 M4 M5 M6 M7 M8 x0 x1 x2 x3 x4 x5 x6 (qx x0) (sx x0) (VecWindow.put xH (k0_off1 i) S512x256.size (k0_pay17 (qx x0) (sx x0) x1 x2 x3 x4)) (k0_pay1 k0_pay15 (k0_pay18 (qx x0) (sx x0) x1 x2 x3 x4)) -∗ K ⟨⟩))
      ⊢ wp frame (wpE (defs₀ (F := F)) Variants.none c none) Set.univ
          (cc0_swiglu_up_fp8 i M0 h0 M1 h1 M2 h2 M3 h3 M4 h4 M5 h5 M6 h6 M7 h7 M8 h8 scH (Memref.isWhole_whole _) scM (Memref.isWhole_whole _)) K := by
  simp only [cc0_swiglu_up_fp8_eq_skeleton]; unfold cc0_swiglu_up_fp8_skel
  sl_open_parts
  unfold Holds owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fH, %eH, HH⟩, ⟨%fM, %eM, HM⟩⟩, Hk⟩
  sl_exec (disch := first | sl_exact hc1 | sl_exact hc2)
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; subst e0 e1 e2 e3 e4 e5 e6 e7 e8 eH eM
    try unfold qx
    try unfold sx
    repeat (first | delta runFirst.sl.v31 | delta runFirst.sl.HM_1 | delta runFirst.sl.v3 | delta runFirst.sl.v5 | delta runFirst.sl.H7_1 | delta runFirst.sl.H8_1 | rw [View.readAt_full] | rw [View.readCov_full] | rw [View.read_writes_full] | rw [View.readAt_writes_full] | rw [View.read_writes_cons_put _ _ _ _ _ rfl] | rw [View.writes_nil])
    try with_reducible rfl
  isplitl [H8]
  · iexists _; isplitr; swap; · iexact H8
    ipureintro; subst e0 e1 e2 e3 e4 e5 e6 e7 e8 eH eM
    try unfold qx
    try unfold sx
    repeat (first | delta runFirst.sl.v31 | delta runFirst.sl.HM_1 | delta runFirst.sl.v3 | delta runFirst.sl.v5 | delta runFirst.sl.H7_1 | delta runFirst.sl.H8_1 | rw [View.readAt_full] | rw [View.readCov_full] | rw [View.read_writes_full] | rw [View.readAt_writes_full] | rw [View.read_writes_cons_put _ _ _ _ _ rfl] | rw [View.writes_nil])
    try with_reducible rfl
  isplitl [HH]
  · iexists _; isplitr; swap; · iexact HH
    ipureintro; subst e0 e1 e2 e3 e4 e5 e6 e7 e8 eH eM
    try unfold qx
    try unfold sx
    repeat (first | delta runFirst.sl.v31 | delta runFirst.sl.HM_1 | delta runFirst.sl.v3 | delta runFirst.sl.v5 | delta runFirst.sl.H7_1 | delta runFirst.sl.H8_1 | rw [View.readAt_full] | rw [View.readCov_full] | rw [View.read_writes_full] | rw [View.readAt_writes_full] | rw [View.read_writes_cons_put _ _ _ _ _ rfl] | rw [View.writes_nil])
    try with_reducible rfl
  · iexists _; isplitr; swap; · iexact HM
    ipureintro; subst e0 e1 e2 e3 e4 e5 e6 e7 e8 eH eM
    try unfold qx
    try unfold sx
    repeat (first | delta runFirst.sl.v31 | delta runFirst.sl.HM_1 | delta runFirst.sl.v3 | delta runFirst.sl.v5 | delta runFirst.sl.H7_1 | delta runFirst.sl.H8_1 | rw [View.readAt_full] | rw [View.readCov_full] | rw [View.read_writes_full] | rw [View.readAt_writes_full] | rw [View.read_writes_cons_put _ _ _ _ _ rfl] | rw [View.writes_nil])
    try with_reducible rfl

/-- What the body leaves at the point in the middle of a block of rows. -/
theorem runMid (hc1 : ¬ k0_cond1 i = 1#1) (hc2 : ¬ k0_cond2 i = 1#1) (K : PUnit → sProp 𝕄) :
    iprop(Holds c M0 M1 M2 M3 M4 M5 M6 M7 M8 x0 x1 x2 x3 x4 x5 x6 x7 x8 xH xM
        ∗ (Holds c M0 M1 M2 M3 M4 M5 M6 M7 M8 x0 x1 x2 x3 x4 x5 x6 x7 x8 (VecWindow.put xH (k0_off1 i) S512x256.size (k0_pay17 x7 x8 x1 x2 x3 x4)) (k0_pay1 xM (k0_pay18 x7 x8 x1 x2 x3 x4)) -∗ K ⟨⟩))
      ⊢ wp frame (wpE (defs₀ (F := F)) Variants.none c none) Set.univ
          (cc0_swiglu_up_fp8 i M0 h0 M1 h1 M2 h2 M3 h3 M4 h4 M5 h5 M6 h6 M7 h7 M8 h8 scH (Memref.isWhole_whole _) scM (Memref.isWhole_whole _)) K := by
  simp only [cc0_swiglu_up_fp8_eq_skeleton]; unfold cc0_swiglu_up_fp8_skel
  sl_open_parts
  unfold Holds owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fH, %eH, HH⟩, ⟨%fM, %eM, HM⟩⟩, Hk⟩
  sl_exec (disch := first | sl_exact hc1 | sl_exact hc2)
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [HH]
  · iexists _; isplitr; swap; · iexact HH
    ipureintro; subst e0 e1 e2 e3 e4 e5 e6 e7 e8 eH eM
    repeat (first | rw [View.readAt_full] | rw [View.readCov_full] | rw [View.read_writes_full] | rw [View.readAt_writes_full] | rw [View.read_writes_cons_put _ _ _ _ _ rfl] | rw [View.writes_nil])
  · iexists _; isplitr; swap; · iexact HM
    ipureintro; subst e0 e1 e2 e3 e4 e5 e6 e7 e8 eH eM
    repeat (first | rw [View.readAt_full] | rw [View.readCov_full] | rw [View.read_writes_full] | rw [View.readAt_writes_full] | rw [View.read_writes_cons_put _ _ _ _ _ rfl] | rw [View.writes_nil])

/-- What the body leaves at the last point of a block of rows. -/
theorem runLast (hc1 : ¬ k0_cond1 i = 1#1) (hc2 : k0_cond2 i = 1#1) (K : PUnit → sProp 𝕄) :
    iprop(Holds c M0 M1 M2 M3 M4 M5 M6 M7 M8 x0 x1 x2 x3 x4 x5 x6 x7 x8 xH xM
        ∗ (Holds c M0 M1 M2 M3 M4 M5 M6 M7 M8 x0 x1 x2 x3 x4 (k0_pay12 (k0_pay1 xM (k0_pay18 x7 x8 x1 x2 x3 x4))) (k0_pay2 (k0_pay13 (k0_pay1 xM (k0_pay18 x7 x8 x1 x2 x3 x4))) 4294967169#32 128#32 (VecWindow.put xH (k0_off1 i) S512x256.size (k0_pay17 x7 x8 x1 x2 x3 x4))) x7 x8 (VecWindow.put xH (k0_off1 i) S512x256.size (k0_pay17 x7 x8 x1 x2 x3 x4)) (k0_pay1 xM (k0_pay18 x7 x8 x1 x2 x3 x4)) -∗ K ⟨⟩))
      ⊢ wp frame (wpE (defs₀ (F := F)) Variants.none c none) Set.univ
          (cc0_swiglu_up_fp8 i M0 h0 M1 h1 M2 h2 M3 h3 M4 h4 M5 h5 M6 h6 M7 h7 M8 h8 scH (Memref.isWhole_whole _) scM (Memref.isWhole_whole _)) K := by
  simp only [cc0_swiglu_up_fp8_eq_skeleton]; unfold cc0_swiglu_up_fp8_skel
  sl_open_parts
  unfold Holds owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%fH, %eH, HH⟩, ⟨%fM, %eM, HM⟩⟩, Hk⟩
  sl_exec (disch := first | sl_exact hc1 | sl_exact hc2)
  sl_step
  iapply Hk
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; subst e0 e1 e2 e3 e4 e5 e6 e7 e8 eH eM
    repeat (first | delta runLast.sl.v43 | delta runLast.sl.HM_1 | delta runLast.sl.HH_1 | rw [View.readAt_full] | rw [View.readCov_full] | rw [View.read_writes_full] | rw [View.readAt_writes_full] | rw [View.read_writes_cons_put _ _ _ _ _ rfl] | rw [View.writes_nil])
  isplitl [H6]
  · iexists _; isplitr; swap; · iexact H6
    ipureintro; subst e0 e1 e2 e3 e4 e5 e6 e7 e8 eH eM
    repeat (first | delta runLast.sl.v43 | delta runLast.sl.HM_1 | delta runLast.sl.HH_1 | rw [View.readAt_full] | rw [View.readCov_full] | rw [View.read_writes_full] | rw [View.readAt_writes_full] | rw [View.read_writes_cons_put _ _ _ _ _ rfl] | rw [View.writes_nil])
  isplitl [H7]
  · iexists _; isplitr; swap; · iexact H7
    ipureintro; exact e7
  isplitl [H8]
  · iexists _; isplitr; swap; · iexact H8
    ipureintro; exact e8
  isplitl [HH]
  · iexists _; isplitr; swap; · iexact HH
    ipureintro; subst e0 e1 e2 e3 e4 e5 e6 e7 e8 eH eM
    repeat (first | delta runLast.sl.v43 | delta runLast.sl.HM_1 | delta runLast.sl.HH_1 | rw [View.readAt_full] | rw [View.readCov_full] | rw [View.read_writes_full] | rw [View.readAt_writes_full] | rw [View.read_writes_cons_put _ _ _ _ _ rfl] | rw [View.writes_nil])
  · iexists _; isplitr; swap; · iexact HM
    ipureintro; subst e0 e1 e2 e3 e4 e5 e6 e7 e8 eH eM
    repeat (first | delta runLast.sl.v43 | delta runLast.sl.HM_1 | delta runLast.sl.HH_1 | rw [View.readAt_full] | rw [View.readCov_full] | rw [View.read_writes_full] | rw [View.readAt_writes_full] | rw [View.read_writes_cons_put _ _ _ _ _ rfl] | rw [View.writes_nil])

end Cert.KernelIdeal.Hand
end
-- ==== Proof.KiBody.lean ====
module

public import proofs.«01_k».proof.Proof.KiRun
public import Idealize.ShloMosaic.Lib.Pipeline.DatRel
public import Idealize.ShloMosaic.Lib.Pipeline.ArrRel

/-! The kernel's grid, point by point: what each output window and each scratch buffer holds after a point,
    and the run of the whole program that follows from it. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## Where a point lies in the grid -/

theorem cond1_iff : ∀ t : Fin grid0.N, k0_cond1 (grid0.coords t) = 1#1 ↔ t.val % 20 = 0 := by decide +kernel
theorem cond2_iff : ∀ t : Fin grid0.N, k0_cond2 (grid0.coords t) = 1#1 ↔ t.val % 20 = 19 := by decide +kernel
theorem off1_eq : ∀ t : Fin grid0.N, k0_off1 (grid0.coords t) = ![0, 256 * (t.val % 20)] := by decide +kernel

/-- The first point of the row block that point `t` works on. -/
def first (t : Fin cfg0.N) : Fin cfg0.N := ⟨20 * (t.val / 20), by have := t.isLt; have h : cfg0.N = 160 := N_0; omega⟩

theorem first_eq {t : Fin cfg0.N} (h : t.val % 20 = 0) : first t = t := Fin.ext (by show 20 * (t.val / 20) = t.val; omega)
theorem first_congr {s t : Fin cfg0.N} (h : s.val / 20 = t.val / 20) : first s = first t := Fin.ext (by show 20 * (s.val / 20) = 20 * (t.val / 20); omega)

/-! ## What the points compute -/

/-- The block of `x` that point `t` works on. -/
def xb (c : Dev nD) (t : Fin cfg0.N) : Vec F S512x7168 .bf16 := iblk m c 0 t
/-- The gate's block of the weights at point `t`. -/
def wgb (c : Dev nD) (t : Fin cfg0.N) : Vec F S7168x256 .fp8e4m3 := iblk m c 1 t
/-- The up projection's block of the weights at point `t`. -/
def wub (c : Dev nD) (t : Fin cfg0.N) : Vec F S7168x256 .fp8e4m3 := iblk m c 2 t
/-- The gate's block of the weight scales at point `t`. -/
def sgb (c : Dev nD) (t : Fin cfg0.N) : Vec F S1x256 .f32 := iblk m c 3 t
/-- The up projection's block of the weight scales at point `t`. -/
def sub (c : Dev nD) (t : Fin cfg0.N) : Vec F S1x256 .f32 := iblk m c 4 t

/-- The codes of the rows of point `t`. -/
def XC (c : Dev nD) (t : Fin cfg0.N) : FVec F S512x7168 .fp8e4m3 := qx (xb m c (first t))
/-- The scales of the rows of point `t`. -/
def XS (c : Dev nD) (t : Fin cfg0.N) : FVec F S512x1 .f32 := sx (xb m c (first t))
/-- The tile of activations that point `t` computes. -/
def HB (c : Dev nD) (t : Fin cfg0.N) : FVec F S512x256 .f32 :=
  k0_pay17 (XC m c t) (XS m c t) (wgb m c t) (wub m c t) (sgb m c t) (sub m c t)
/-- The lane maxima of the tile of point `t`. -/
def MB (c : Dev nD) (t : Fin cfg0.N) : FVec F S512x128 .f32 :=
  k0_pay18 (XC m c t) (XS m c t) (wgb m c t) (wub m c t) (sgb m c t) (sub m c t)
/-- The running lane maxima after `n` points (started anew at each row block). -/
def MX (c : Dev nD) : ℕ → FVec F S512x128 .f32
  | 0 => k0_pay15
  | n + 1 => if h : n < cfg0.N then k0_pay1 (if n % 20 = 0 then k0_pay15 else MX c n) (MB m c ⟨n, h⟩) else k0_pay15

theorem MX_succ (c : Dev nD) (t : Fin cfg0.N) :
    MX m c (t.val + 1) = k0_pay1 (if t.val % 20 = 0 then k0_pay15 else MX m c t.val) (MB m c t) := by
  rw [MX, dif_pos t.isLt]

/-- The activations' buffer, the points of the row block of `n` before `n` done: it holds their tiles. -/
def InvH (c : Dev nD) (n : ℕ) (xH : S512x5120.Idx → Elt F .f32) : Prop :=
  ∀ s : Fin cfg0.N, s.val / 20 = n / 20 → s.val < n →
    VecWindow.window xH (k0_off1 (grid0.coords s)) S512x256.size (k0_off1_inb (grid0.coords s)) = HB m c s

/-- The activations' buffer after point `t`: it holds the tiles of the row block of `t` up to `t`. -/
def DoneH (c : Dev nD) (t : Fin cfg0.N) (xH : S512x5120.Idx → Elt F .f32) : Prop :=
  ∀ s : Fin cfg0.N, s.val / 20 = t.val / 20 → s.val ≤ t.val →
    VecWindow.window xH (k0_off1 (grid0.coords s)) S512x256.size (k0_off1_inb (grid0.coords s)) = HB m c s

theorem doneH_put (c : Dev nD) (t : Fin cfg0.N) (xH : S512x5120.Idx → Elt F .f32) (h : InvH m c t.val xH) :
    DoneH m c t (VecWindow.put xH (k0_off1 (grid0.coords t)) S512x256.size (HB m c t)) := fun s hs hle => by
  by_cases hst : s = t
  · subst hst; exact VecWindow.window_put_same _ _ _ _ _
  · have hne : s.val ≠ t.val := fun e => hst (Fin.ext e)
    rw [VecWindow.window_put_of_disjoint _ _ _ _ _ _ _ (1 : Fin 2) (by
      rw [off1_eq, off1_eq]; show 256 * (s.val % 20) + 256 ≤ 256 * (t.val % 20) ∨ 256 * (t.val % 20) + 256 ≤ 256 * (s.val % 20)
      omega)]
    exact h s hs (by omega)

theorem invH_of_done (c : Dev nD) (t : Fin cfg0.N) (xH : S512x5120.Idx → Elt F .f32) (h : DoneH m c t xH) :
    InvH m c (t.val + 1) xH := fun s hs hlt => h s (by omega) (by omega)

/-- The same, the tile spelled as the body computes it from the codes and scales `q`, `s` it finds or makes. -/
theorem doneH_put' (c : Dev nD) (t : Fin cfg0.N) (xH : S512x5120.Idx → Elt F .f32) (h : InvH m c t.val xH)
    {q : FVec F S512x7168 .fp8e4m3} {s : FVec F S512x1 .f32} (hq : q = XC m c t) (hs : s = XS m c t) :
    DoneH m c t (VecWindow.put xH (k0_off1 (grid0.coords t)) S512x256.size
      (k0_pay17 q s (iblk m c 1 t) (iblk m c 2 t) (iblk m c 3 t) (iblk m c 4 t))) := by
  subst hq hs; exact doneH_put m c t xH h

/-! ## The proof data -/

/-- The windows held to a predicate: the four results. -/
def fgt0 : Fin 9 → Bool := ![false, false, false, false, false, true, true, true, true]

/-- What each result's staging buffer holds after point `t`: the codes and the scales of `x` from the first point of
    the row block on, those of the activations from its last point. -/
def Rl (c : Dev nD) (w : Fin cfg0.W) (t : Fin cfg0.N) : ((cfg0.win w).block.Idx → Elt F (cfg0.win w).elt) → Prop :=
  match w with
  | 0 | 1 | 2 | 3 | 4 => fun _ => True
  | 5 => fun X => t.val % 20 = 19 → X = k0_pay12 (MX m c (t.val + 1))
  | 6 => fun X => t.val % 20 = 19 → ∃ xH, DoneH m c t xH ∧ X = k0_pay2 (k0_pay13 (MX m c (t.val + 1))) 4294967169#32 128#32 xH
  | 7 => fun X => X = XC m c t
  | 8 => fun X => X = XS m c t

/-- What the scratch buffers hold before point `n`, with the generator register. -/
def Φ0 (c : Dev nD) (n : ℕ) : sProp 𝕄 :=
  iprop(∃ xH : S512x5120.Idx → Elt F .f32, ∃ xM : S512x128.Idx → Elt F .f32,
    ⌜InvH m c n xH ∧ (n % 20 ≠ 0 → xM = MX m c n)⌝
      ∗ owns (c : Thread nD τ) scH fullShare xH ∗ owns (c : Thread nD τ) scM fullShare xM ∗ (∃ r, prngReg c r))

/-- The proof data on core `c`: the arrays as the region finds them, the inputs' blocks left in place, the scratch invariant. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => Pipeline.Dat.unnamed (cfg := cfg0) 5 t
    | 6 => Pipeline.Dat.unnamed (cfg := cfg0) 6 t
    | 7 => Pipeline.Dat.unnamed (cfg := cfg0) 7 t
    | 8 => Pipeline.Dat.unnamed (cfg := cfg0) 8 t
  Φ t := Φ0 m c t.val
  q w := Pipeline.shareOf spec0 w
  owed _ := 0

theorem A_eq (c : Dev nD) (w : Fin cfg0.W) : (dats m 0 c).A w = V m c (Pipeline.arrRef spec0 w) := by dsimp only [dats]

/-- The relational data: the exact data with the results held to `Rl`. -/
abbrev rdat (c : Dev nD) : RDat τ (Elt F) Unit ℕ (UR sig nD τ) ℕ cfg0 c := (dats m 0 c).toRRel fgt0 (Rl m c)

/-- Between two points of one row block the codes of `x` are still in their staging buffer. -/
theorem finds7 (c : Dev nD) (t : Fin cfg0.N) (ht : t.val % 20 ≠ 0) (Y : S512x7168.Idx → Elt F .fp8e4m3)
    (h : (rdat m c).Finds 7 t Y) : Y = XC m c t := by
  unfold RDat.Finds at h
  rw [if_neg (by exact Bool.false_ne_true), if_neg (by omega)] at h
  dsimp only at h
  rw [if_neg (by rw [flush0_7]; show ¬ (t.val - 1) % 20 = 19; omega)] at h
  obtain ⟨Y', -, h⟩ := h
  have h' : Y = XC m c ⟨t.val - 1, by omega⟩ := h
  rw [h']; unfold XC
  rw [first_congr (s := ⟨t.val - 1, by omega⟩) (t := t) (by show (t.val - 1) / 20 = t.val / 20; omega)]

/-- Between two points of one row block the scales of `x` are still in their staging buffer. -/
theorem finds8 (c : Dev nD) (t : Fin cfg0.N) (ht : t.val % 20 ≠ 0) (Y : S512x1.Idx → Elt F .f32)
    (h : (rdat m c).Finds 8 t Y) : Y = XS m c t := by
  unfold RDat.Finds at h
  rw [if_neg (by exact Bool.false_ne_true), if_neg (by omega)] at h
  dsimp only at h
  rw [if_neg (by rw [flush0_8]; show ¬ (t.val - 1) % 20 = 19; omega)] at h
  obtain ⟨Y', -, h⟩ := h
  have h' : Y = XS m c ⟨t.val - 1, by omega⟩ := h
  rw [h']; unfold XS
  rw [first_congr (s := ⟨t.val - 1, by omega⟩) (t := t) (by show (t.val - 1) / 20 = t.val / 20; omega)]

/-- Window 0's staging memref at point `t`. -/
abbrev ms0 (t : Fin cfg0.N) : Memref sig .tc .vmem S512x7168 .bf16 := win0_0.stage (cfg0.slots t 0)
abbrev hs0 (t : Fin cfg0.N) : (ms0 t).IsWhole := hstage0_0 ((cfg0.slots t 0).cast nbuf0_0)
/-- Window 1's staging memref at point `t`. -/
abbrev ms1 (t : Fin cfg0.N) : Memref sig .tc .vmem S7168x256 .fp8e4m3 := win0_1.stage (cfg0.slots t 1)
abbrev hs1 (t : Fin cfg0.N) : (ms1 t).IsWhole := hstage0_1 ((cfg0.slots t 1).cast nbuf0_1)
/-- Window 2's staging memref at point `t`. -/
abbrev ms2 (t : Fin cfg0.N) : Memref sig .tc .vmem S7168x256 .fp8e4m3 := win0_2.stage (cfg0.slots t 2)
abbrev hs2 (t : Fin cfg0.N) : (ms2 t).IsWhole := hstage0_2 ((cfg0.slots t 2).cast nbuf0_2)
/-- Window 3's staging memref at point `t`. -/
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
/-- Window 4's staging memref at point `t`. -/
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
/-- Window 5's staging memref at point `t`. -/
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
/-- Window 6's staging memref at point `t`. -/
abbrev ms6 (t : Fin cfg0.N) : Memref sig .tc .vmem S512x5120 .fp8e4m3 := win0_6.stage (cfg0.slots t 6)
abbrev hs6 (t : Fin cfg0.N) : (ms6 t).IsWhole := hstage0_6 ((cfg0.slots t 6).cast nbuf0_6)
/-- Window 7's staging memref at point `t`. -/
abbrev ms7 (t : Fin cfg0.N) : Memref sig .tc .vmem S512x7168 .fp8e4m3 := win0_7.stage (cfg0.slots t 7)
abbrev hs7 (t : Fin cfg0.N) : (ms7 t).IsWhole := hstage0_7 ((cfg0.slots t 7).cast nbuf0_7)
/-- Window 8's staging memref at point `t`. -/
abbrev ms8 (t : Fin cfg0.N) : Memref sig .tc .vmem S512x1 .f32 := win0_8.stage (cfg0.slots t 8)
abbrev hs8 (t : Fin cfg0.N) : (ms8 t).IsWhole := hstage0_8 ((cfg0.slots t 8).cast nbuf0_8)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ Y, ⌜(rdat m c).Finds 5 t Y⌝ ∗ owns (c : Thread nD τ) (ms5 t) fullShare Y)
    ∗ (∃ Y, ⌜(rdat m c).Finds 6 t Y⌝ ∗ owns (c : Thread nD τ) (ms6 t) fullShare Y)
    ∗ (∃ Y, ⌜(rdat m c).Finds 7 t Y⌝ ∗ owns (c : Thread nD τ) (ms7 t) fullShare Y)
    ∗ (∃ Y, ⌜(rdat m c).Finds 8 t Y⌝ ∗ owns (c : Thread nD τ) (ms8 t) fullShare Y))
/-- What the body returns at point `t`. -/
def bodyPost (c : Dev nD) (t : Fin cfg0.N) : sProp 𝕄 :=
  iprop((dats m 0 c).Φ t.succ ∗ (dats m 0 c).owesAt () t.succ
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ (∃ X, ⌜Rl m c 5 t X⌝ ∗ owns (c : Thread nD τ) (ms5 t) fullShare X)
    ∗ (∃ X, ⌜Rl m c 6 t X⌝ ∗ owns (c : Thread nD τ) (ms6 t) fullShare X)
    ∗ (∃ X, ⌜Rl m c 7 t X⌝ ∗ owns (c : Thread nD τ) (ms7 t) fullShare X)
    ∗ (∃ X, ⌜Rl m c 8 t X⌝ ∗ owns (c : Thread nD τ) (ms8 t) fullShare X))

set_option maxHeartbeats 1600000 in
/-- The body at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl,
    show (dats m 0 c).Φ t.castSucc = Φ0 m c t.val from rfl, show (dats m 0 c).Φ t.succ = Φ0 m c (t.val + 1) from rfl]
  simp only [before0_0_of m (dats m 0 c) rfl (fun _ => rfl), before0_1_of m (dats m 0 c) rfl (fun _ => rfl), before0_2_of m (dats m 0 c) rfl (fun _ => rfl), before0_3_of m (dats m 0 c) rfl (fun _ => rfl), before0_4_of m (dats m 0 c) rfl (fun _ => rfl)]
  unfold Φ0
  iintro ⟨⟨%xH, %xM, %hI, HH, HM, Hg⟩, HO, ⟨%d0, H0⟩, ⟨%d1, H1⟩, ⟨%d2, H2⟩, ⟨%d3, H3⟩, ⟨%d4, H4⟩, ⟨%x5, %e5, H5⟩, ⟨%x6, %e6, H6⟩, ⟨%x7, %e7, H7⟩, ⟨%x8, %e8, H8⟩⟩
  obtain ⟨hI, hX⟩ := hI
  have hN : t.val < 160 := Nat.lt_of_lt_of_eq t.isLt N_0
  by_cases hf : t.val % 20 = 0
  · have hq : qx (xb m c t) = XC m c t := by unfold XC; rw [first_eq hf]
    have hs : sx (xb m c t) = XS m c t := by unfold XS; rw [first_eq hf]
    have hMX := MX_succ m c t
    rw [if_pos hf] at hMX
    iapply (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (iblk m c 4 t) x5 x6 x7 x8 xH xM ((cond1_iff t).mpr hf) (fun e => by have := (cond2_iff t).mp e; omega) _)
    unfold Holds
    isplitl [H0 H1 H2 H3 H4 H5 H6 H7 H8 HH HM]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HH]; · iexact HH
      iexact HM
    iintro ⟨H0, H1, H2, H3, H4, H5, H6, H7, H8, HH, HM⟩
    isplitl [HH HM Hg]
    · iexists _, _
      isplitr; swap
      · isplitl [HH]; · iexact HH
        isplitl [HM]; · iexact HM
        iexact Hg
      ipureintro
      exact ⟨invH_of_done m c t _ (doneH_put' m c t xH hI hq hs), fun _ => (by rw [hMX]; unfold MB; rw [← hq, ← hs]; rfl)⟩
    isplitl [HO]; · iexact HO
    isplitl [H0]; · iexact H0
    isplitl [H1]; · iexact H1
    isplitl [H2]; · iexact H2
    isplitl [H3]; · iexact H3
    isplitl [H4]; · iexact H4
    isplitl [H5]
    · iexists _; isplitr; swap; · iexact H5
      ipureintro; exact fun e => absurd (show t.val % 20 = 19 from e) (by omega)
    isplitl [H6]
    · iexists _; isplitr; swap; · iexact H6
      ipureintro; exact fun e => absurd (show t.val % 20 = 19 from e) (by omega)
    isplitl [H7]
    · iexists _; isplitr; swap; · iexact H7
      ipureintro; exact hq
    iexists _; isplitr; swap; · iexact H8
    ipureintro; exact hs
  · by_cases hl : t.val % 20 = 19
    · have h7 := finds7 m c t hf x7 e7
      have h8 := finds8 m c t hf x8 e8
      have hM := hX hf
      subst h7 h8 hM
      have hMX := MX_succ m c t
      rw [if_neg hf] at hMX
      iapply (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (iblk m c 4 t) x5 x6 (XC m c t) (XS m c t) xH (MX m c t.val) (fun e => hf ((cond1_iff t).mp e)) ((cond2_iff t).mpr hl) _)
      unfold Holds
      isplitl [H0 H1 H2 H3 H4 H5 H6 H7 H8 HH HM]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HH]; · iexact HH
        iexact HM
      iintro ⟨H0, H1, H2, H3, H4, H5, H6, H7, H8, HH, HM⟩
      isplitl [HH HM Hg]
      · iexists _, _
        isplitr; swap
        · isplitl [HH]; · iexact HH
          isplitl [HM]; · iexact HM
          iexact Hg
        ipureintro
        exact ⟨invH_of_done m c t _ (doneH_put' m c t xH hI rfl rfl), fun _ => hMX.symm⟩
      isplitl [HO]; · iexact HO
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact fun _ => congrArg k0_pay12 hMX.symm
      isplitl [H6]
      · iexists _; isplitr; swap; · iexact H6
        ipureintro; exact fun _ => ⟨_, doneH_put' m c t xH hI rfl rfl, by rw [hMX]; rfl⟩
      isplitl [H7]
      · iexists _; isplitr; swap; · iexact H7
        ipureintro; exact rfl
      iexists _; isplitr; swap; · iexact H8
      ipureintro; exact rfl
    · have h7 := finds7 m c t hf x7 e7
      have h8 := finds8 m c t hf x8 e8
      have hM := hX hf
      subst h7 h8 hM
      have hMX := MX_succ m c t
      rw [if_neg hf] at hMX
      iapply (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (iblk m c 0 t) (iblk m c 1 t) (iblk m c 2 t) (iblk m c 3 t) (iblk m c 4 t) x5 x6 (XC m c t) (XS m c t) xH (MX m c t.val) (fun e => hf ((cond1_iff t).mp e)) (fun e => hl ((cond2_iff t).mp e)) _)
      unfold Holds
      isplitl [H0 H1 H2 H3 H4 H5 H6 H7 H8 HH HM]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HH]; · iexact HH
        iexact HM
      iintro ⟨H0, H1, H2, H3, H4, H5, H6, H7, H8, HH, HM⟩
      isplitl [HH HM Hg]
      · iexists _, _
        isplitr; swap
        · isplitl [HH]; · iexact HH
          isplitl [HM]; · iexact HM
          iexact Hg
        ipureintro
        exact ⟨invH_of_done m c t _ (doneH_put' m c t xH hI rfl rfl), fun _ => hMX.symm⟩
      isplitl [HO]; · iexact HO
      isplitl [H0]; · iexact H0
      isplitl [H1]; · iexact H1
      isplitl [H2]; · iexact H2
      isplitl [H3]; · iexact H3
      isplitl [H4]; · iexact H4
      isplitl [H5]
      · iexists _; isplitr; swap; · iexact H5
        ipureintro; exact fun e => absurd (show t.val % 20 = 19 from e) (by omega)
      isplitl [H6]
      · iexists _; isplitr; swap; · iexact H6
        ipureintro; exact fun e => absurd (show t.val % 20 = 19 from e) (by omega)
      isplitl [H7]
      · iexists _; isplitr; swap; · iexact H7
        ipureintro; exact rfl
      iexists _; isplitr; swap; · iexact H8
      ipureintro; exact rfl

theorem defs₀_row (t : Fin cfg0.N) : defs₀ (F := F) .tc cfg0.body (cfg0.bodyArgs t (cfg0.slots t)) = bodyAt0 t := by
  unfold defs₀; rw [Defs.onTc_tc]

/-- The library's body obligation, the results held to `Rl`. -/
theorem body_obligation (c : Dev nD) :
    BodyObligationRel (dats (F := F) m 0 c) (defs₀ (F := F)) Variants.none () Set.univ fgt0 (Rl m c) := fun t => by
  rw [bigSep_W0, bigSep_W0, defs₀_row]
  exact triple_restated (sound_body m c t) rfl .rfl fun _ => .rfl

/-! ## The launch -/

theorem PhiA0_eq (c : Dev nD) :
    (Pipeline.ΦA spec0 c : sProp 𝕄)
      = iprop(((∃ d, owns (c : Thread nD τ) scH fullShare d) ∗ (∃ d, owns (c : Thread nD τ) scM fullShare d)) ∗ (∃ r, prngReg c r)) := by
  unfold Pipeline.ΦA; rw [scopedRest0_eq]; simp only [scH, scM, owns_whole]; try rfl

theorem hin (c : Dev nD) : (Pipeline.ΦA spec0 c : sProp 𝕄) ⊢ (rdat m c).Φ 0 := by
  rw [PhiA0_eq]; show _ ⊢ Φ0 m c 0; unfold Φ0
  iintro ⟨⟨⟨%dH, HH⟩, ⟨%dM, HM⟩⟩, Hg⟩
  iexists dH, dM
  isplitr
  · ipureintro; exact ⟨fun s _ h => absurd h (by omega), fun h => absurd rfl h⟩
  isplitl [HH]; · iexact HH
  isplitl [HM]; · iexact HM
  iexact Hg

theorem hout (c : Dev nD) : (rdat m c).Φ (Fin.last cfg0.N) ⊢ (Pipeline.ΦA spec0 c : sProp 𝕄) := by
  rw [PhiA0_eq]; show Φ0 m c cfg0.N ⊢ _; unfold Φ0
  iintro ⟨%xH, %xM, -, HH, HM, Hg⟩
  isplitl [HH HM]
  · isplitl [HH]; · iexists _; iexact HH
    iexists _; iexact HM
  iexact Hg

set_option backward.isDefEq.respectTransparency.types false in
/-- From any memory with zero counters every weakly fair execution of the program terminates, its results as the proof
    data say, the other arrays as the region found them, every semaphore at zero. -/
theorem run_main :
    θ_run defs (onTc (τ := τ) (main (F := F))) (s₀ m ρ)
      (fun r => RDat.FramePost (cfgs 0) (rdat m) (V m) r ∧ r.2.sem = fun _ => 0) :=
  RDat.θ_run_frame_track_shared (Q' := _) cfgs (0 : Fin 1) launch₀0 defs₀ Variants.none (rdat m) m ρ main
    (hbody := fun c => (body_obligation m c).toRRel) (hq := fun _ _ _ => rfl) (howed := fun _ _ => rfl) (V := V m)
    (hmain := hmain m Variants.none) (hA := fun c w => A_eq m c w) (hin := hin m) (hout := hout m)
    (hQ' := fun _ h => h)

variable {m}

/-- After the run the arguments hold what they held at launch. -/
theorem args_kept {r : PUnit × MemSt nD τ sig (Elt F)} (h : RDat.FramePost (cfgs 0) (rdat m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).2 main_arg0 (Pipeline.mem_restRefs_of main_arg0 (by decide) (by decide))).trans (V_main_arg0 m c),
   (RDat.FramePost.arr_in h c 2 rfl).trans (V_main_arg1 m c),
   ((h c).2 main_arg2 (Pipeline.mem_restRefs_of main_arg2 (by decide) (by decide))).trans (V_main_arg2 m c)⟩

end Cert.KernelIdeal.Hand
end
-- ==== Proof.Quant.lean ====
module

public import Idealize.ShloMosaic.Lib.Pipeline.ValueKit

@[expose] public section

set_option maxRecDepth 16384

/-! # The row quantiser's scalars over the extended reals

    The kernel reads the exponent of a row's scale out of the bit field of an `f32` and writes powers of two as bit
    fields; the reference states the exponent as the least `e` with `y < 2 ^ e` and its powers of two with `exp2`.
    This module states both scalars and proves them equal on every non-negative extended real. -/

noncomputable section
open Idealize.ShloMosaic
namespace Cert.Quant

/-- The power of two an `f32` of exponent field `k` and zero significand denotes: `0` at field `0`, `⊤` at `255`. -/
def T (k : ℕ) : EReal := if k = 0 then 0 else if k = 255 then ⊤ else (((2 : ℝ) ^ ((k : ℤ) - 127) : ℝ) : EReal)

/-- The word of exponent field `k`, as the kernel shifts it together. -/
def word (k : ℕ) : BitVec 32 := IntOp.shli ArithUnit.vector (BitVec.ofNat 32 k) 23#32

theorem word_fields : ∀ k : Fin 256, (word k).extractLsb' 31 1 = 0#1 ∧ ((word k).extractLsb' 23 8).toNat = k.val
    ∧ ((word k).extractLsb' 0 23).toNat = 0 := by decide +kernel

theorem T_mid (k : ℕ) (h0 : k ≠ 0) (h1 : k ≠ 255) : T k = (((2 : ℝ) ^ ((k : ℤ) - 127) : ℝ) : EReal) := by
  simp [T, h0, h1]
theorem T_zero' (k : ℕ) (h : k = 0) : T k = 0 := by simp [T, h]
theorem T_top' (k : ℕ) (h : k = 255) : T k = ⊤ := by simp [T, h]

/-- The word of exponent field `k` denotes `T k`. -/
theorem ofBits_word (k : ℕ) (hk : k < 256) : Ideal.ofBits .f32 (word k) = T k := by
  obtain ⟨h1, h2, h3⟩ := word_fields ⟨k, hk⟩
  generalize word k = b at h1 h2 h3 ⊢
  show Ideal.ieee 8 23 b = T k
  have h1' : b.extractLsb' (8 + 23) 1 = 0#1 := h1
  have h2' : (b.extractLsb' 23 8).toNat = k := h2
  have h3' : (b.extractLsb' 0 23).toNat = 0 := h3
  have hs : ((0#1 : BitVec 1) == 1#1) = false := rfl
  unfold Ideal.ieee
  simp only [h2', h3', h1', hs]
  by_cases h255 : k = 255
  · have a1 : k = 2 ^ 8 - 1 := h255
    rw [if_pos a1, T_top' k h255]; simp
  · have a1 : ¬ k = 2 ^ 8 - 1 := h255
    rw [if_neg a1]
    by_cases h0 : k = 0
    · rw [if_pos h0, T_zero' k h0]; norm_num
    · rw [if_neg h0, T_mid k h0 h255]
      congr 1
      have e : ((k : ℤ) - (2 ^ (8 - 1) - 1) - (23 : ℕ) : ℤ) = ((k : ℤ) - 127) - 23 := by norm_num
      rw [e, zpow_sub₀ (by norm_num : (2 : ℝ) ≠ 0)]
      norm_num
      exact mul_div_cancel₀ _ (by norm_num)

theorem T_zero : T 0 = 0 := by simp [T]
theorem T_top : T 255 = ⊤ := by simp [T]
theorem T_mono {j k : ℕ} (hjk : j ≤ k) (hk : k ≤ 255) : T j ≤ T k := by
  by_cases h : j = 0
  · subst h; rw [T_zero]; unfold T; split_ifs
    · exact le_refl _
    · exact le_top
    · exact EReal.coe_nonneg.2 (by positivity)
  · by_cases h' : k = 255
    · subst h'; rw [T_top]; exact le_top
    · rw [T_mid j h (by omega), T_mid k (by omega) h']
      exact EReal.coe_le_coe_iff.2 (zpow_le_zpow_right₀ (by norm_num) (by omega))

/-- Every non-negative extended real has an exponent field: the greatest `f` whose power of two is at most it. -/
theorem exists_field (y : EReal) (hy : 0 ≤ y) : ∃ f : ℕ, f ≤ 255 ∧ ∀ k : ℕ, k ≤ 255 → (T k ≤ y ↔ k ≤ f) := by
  classical
  refine ⟨Nat.findGreatest (fun k => T k ≤ y) 255, Nat.findGreatest_le _, fun k hk => ⟨fun h => Nat.le_findGreatest hk h, fun h => ?_⟩⟩
  have : T (Nat.findGreatest (fun k => T k ≤ y) 255) ≤ y :=
    Nat.findGreatest_spec (P := fun k => T k ≤ y) (Nat.zero_le _) (by rw [T_zero]; exact hy)
  exact (T_mono h (Nat.findGreatest_le _)).trans this

/-! ## The kernel's scalars -/

/-- The exponent field the kernel finds: the greatest `k` whose power of two is at most `|y|`. -/
def kField (y : EReal) : BitVec 32 :=
  Finset.fold IntOp.maxsi (2147483648#32)
    (fun x : Fin 256 => if Ideal.ofBits .f32 (IntOp.shli ArithUnit.vector (BitVec.ofNat 32 ↑x) 23#32) ≤ FloatOps.absf (F := Ideal) (φ := .f32) y
      then BitVec.ofNat 32 ↑x else 0#32) Finset.univ

/-- The kernel's exponent of the scale of a row of greatest magnitude `a`. -/
def kE (a : EReal) : BitVec 32 :=
  if a = 0 then 0#32 else
    Scalar.select (IntOp.ori (IntOp.cmpi .eq (kField (a * Ideal.ofBits .f32 991054117#32)) 0#32)
        (IntOp.cmpi .eq (kField (a * Ideal.ofBits .f32 991054117#32)) 255#32)) (0#32)
      (IntOp.subi (kField (a * Ideal.ofBits .f32 991054117#32)) 126#32)

/-- The kernel's power of two of an integer exponent. -/
def kP (e : BitVec 32) : EReal :=
  Ideal.ofBits .f32 (IntOp.shli ArithUnit.vector (IntOp.addi (IntOp.minsi (128#32) (IntOp.maxsi (4294967169#32) e)) 127#32) 23#32)

/-! ## The reference's scalars -/

/-- The reference's exponent of a non-zero scale `y`. -/
def rFrexp (y : EReal) : EReal :=
  Scalar.select (IntOp.ori (BitVec.ofBool (decide (y < Ideal.ofBits .f32 8388608#32)))
      (BitVec.ofBool (decide (y = Ideal.ofBits .f32 2139095040#32)))) (0 : EReal)
    (Finset.fold min (Ideal.ofBits .f32 2139095040#32)
      (fun x : Fin 254 => if y < FloatOps.exp2 (F := Ideal) (φ := .f32) (FloatOps.sitofp (F := Ideal) FTy.f32 (BitVec.ofNat 32 ↑x) - Ideal.ofBits .f32 1123680256#32)
        then FloatOps.sitofp (F := Ideal) FTy.f32 (BitVec.ofNat 32 ↑x) - Ideal.ofBits .f32 1123680256#32 else Ideal.ofBits .f32 1124073472#32)
      Finset.univ)

/-- The reference's exponent of the scale of a row of greatest magnitude `a`. -/
def rE (a : EReal) : EReal := if a = 0 then 0 else rFrexp (a * Ideal.ofBits .f32 991054117#32)

/-- The reference's power of two of an exponent. -/
def rP (e : EReal) : EReal :=
  if Ideal.ofBits .f32 1123942400#32 < e then Ideal.ofBits .f32 2139095040#32
  else if e < Ideal.ofBits .f32 3271294976#32 then 0 else FloatOps.exp2 (F := Ideal) (φ := .f32) e

/-! ## The constants -/

theorem c_bot_f32 : Ideal.ofBits .f32 4286578688#32 = ⊥ := by simp [Ideal.ofBits, Ideal.ieee]
theorem c_bot_bf16 : Ideal.ofBits .bf16 65408#16 = ⊥ := by simp [Ideal.ofBits, Ideal.ieee]
theorem c_top : Ideal.ofBits .f32 2139095040#32 = ⊤ := by simp [Ideal.ofBits, Ideal.ieee]
theorem c_125 : Ideal.ofBits .f32 1123680256#32 = ((125 : ℝ) : EReal) := by
  simp [Ideal.ofBits, Ideal.ieee, -EReal.coe_mul]; norm_num
theorem c_127 : Ideal.ofBits .f32 1123942400#32 = ((127 : ℝ) : EReal) := by
  simp [Ideal.ofBits, Ideal.ieee, -EReal.coe_mul]; norm_num
theorem c_128 : Ideal.ofBits .f32 1124073472#32 = ((128 : ℝ) : EReal) := by
  simp [Ideal.ofBits, Ideal.ieee, -EReal.coe_mul]; norm_num
theorem c_m126 : Ideal.ofBits .f32 3271294976#32 = ((-126 : ℝ) : EReal) := by
  simp [Ideal.ofBits, Ideal.ieee, -EReal.coe_mul, -EReal.coe_neg]; norm_num
theorem c_min : Ideal.ofBits .f32 8388608#32 = T 1 := ofBits_word 1 (by norm_num)
theorem c_inv448 : 0 ≤ Ideal.ofBits .f32 991054117#32 := by
  simp [Ideal.ofBits, Ideal.ieee, -EReal.coe_mul]

/-! ## The fields and the exponents -/

theorem absf_nonneg (y : EReal) : (0 : EReal) ≤ FloatOps.absf (F := Ideal) (φ := .f32) y := by
  show (0 : EReal) ≤ max y (-y)
  rcases le_total 0 y with h | h
  · exact h.trans (le_max_left _ _)
  · exact (EReal.neg_nonneg.2 h).trans (le_max_right _ _)

theorem absf_of_nonneg (y : EReal) (hy : 0 ≤ y) : FloatOps.absf (F := Ideal) (φ := .f32) y = y := by
  show max y (-y) = y
  exact max_eq_left ((EReal.neg_le_neg_iff.2 hy).trans (by simpa using hy))

theorem toInt_maxsi (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

theorem toInt_ofNat_small : ∀ k : Fin 256, (BitVec.ofNat 32 k.val).toInt = (k.val : ℤ) := by decide +kernel

/-- The kernel's field of a non-negative `y` is its exponent field. -/
theorem kField_eq (y : EReal) (hy : 0 ≤ y) (f : ℕ) (hf : f ≤ 255) (h : ∀ k : ℕ, k ≤ 255 → (T k ≤ y ↔ k ≤ f)) :
    kField y = BitVec.ofNat 32 f := by
  apply BitVec.eq_of_toInt_eq
  rw [toInt_ofNat_small ⟨f, by omega⟩]
  unfold kField
  rw [← Finset.fold_hom (op' := max) (m := BitVec.toInt) (hm := toInt_maxsi)]
  have e : ∀ x : Fin 256, (if Ideal.ofBits .f32 (IntOp.shli ArithUnit.vector (BitVec.ofNat 32 ↑x) 23#32) ≤ FloatOps.absf (F := Ideal) (φ := .f32) y
      then BitVec.ofNat 32 ↑x else 0#32).toInt = if x.val ≤ f then (x.val : ℤ) else 0 := by
    intro x
    rw [absf_of_nonneg y hy]
    have := ofBits_word x.val x.isLt
    unfold word at this
    rw [this]
    by_cases hx : x.val ≤ f
    · rw [if_pos ((h x (by omega)).2 hx), if_pos hx, toInt_ofNat_small x]
    · rw [if_neg (fun hh => hx ((h x (by omega)).1 hh)), if_neg hx]; rfl
  simp only [e]
  apply le_antisymm
  · rw [Finset.fold_max_le]
    refine ⟨?_, fun x _ => ?_⟩
    · have : (2147483648#32 : BitVec 32).toInt = -2147483648 := by decide
      rw [this]; omega
    · split_ifs <;> omega
  · rw [Finset.le_fold_max]
    right
    exact ⟨⟨f, by omega⟩, Finset.mem_univ _, by simp⟩

/-- The kernel's exponent of a non-zero row, by its exponent field. -/
theorem kE_eq (a : EReal) (ha : 0 ≤ a) (ha0 : a ≠ 0) (f : ℕ) (hf : f ≤ 255)
    (h : ∀ k : ℕ, k ≤ 255 → (T k ≤ a * Ideal.ofBits .f32 991054117#32 ↔ k ≤ f)) :
    kE a = if f = 0 ∨ f = 255 then 0#32 else IntOp.subi (BitVec.ofNat 32 f) 126#32 := by
  have hw : ∀ f : Fin 256, Scalar.select (IntOp.ori (IntOp.cmpi .eq (BitVec.ofNat 32 f.val) 0#32)
      (IntOp.cmpi .eq (BitVec.ofNat 32 f.val) 255#32)) (0#32) (IntOp.subi (BitVec.ofNat 32 f.val) 126#32)
      = if f.val = 0 ∨ f.val = 255 then 0#32 else IntOp.subi (BitVec.ofNat 32 f.val) 126#32 := by decide +kernel
  unfold kE
  rw [if_neg ha0, kField_eq _ (mul_nonneg ha c_inv448) f hf h]
  exact hw ⟨f, by omega⟩

theorem exp2_int (n : ℤ) : FloatOps.exp2 (F := Ideal) (φ := .f32) (((n : ℝ)) : EReal) = (((2 : ℝ) ^ n : ℝ) : EReal) := by
  show Ideal.exp2 (((n : ℝ)) : EReal) = _
  rw [Ideal.exp2_coe]
  congr 1
  exact Real.rpow_intCast 2 n

theorem sitofp_sub (x : Fin 254) : (FloatOps.sitofp (F := Ideal) FTy.f32 (BitVec.ofNat 32 ↑x) - Ideal.ofBits .f32 1123680256#32 : EReal)
    = ((((x.val : ℤ) - 125 : ℤ) : ℝ) : EReal) := by
  have e : FloatOps.sitofp (F := Ideal) FTy.f32 (BitVec.ofNat 32 ↑x) = ((((BitVec.ofNat 32 x.val).toInt : ℤ) : ℝ) : EReal) := rfl
  rw [e, toInt_ofNat_small ⟨x.val, by omega⟩, c_125, ← EReal.coe_sub]
  push_cast; rfl

/-- The reference's exponent of a scale, by its exponent field. -/
theorem rFrexp_eq (y : EReal) (hy : 0 ≤ y) (f : ℕ) (hf : f ≤ 255) (h : ∀ k : ℕ, k ≤ 255 → (T k ≤ y ↔ k ≤ f)) :
    rFrexp y = if f = 0 ∨ f = 255 then 0 else ((((f : ℤ) - 126 : ℤ) : ℝ) : EReal) := by
  unfold rFrexp
  rw [c_min, c_top, c_128]
  have h1 : y < T 1 ↔ f = 0 := by
    rw [← not_le, h 1 (by norm_num)]; omega
  have h255 : y = ⊤ ↔ f = 255 := by
    rw [← top_le_iff, ← T_top, h 255 le_rfl]; omega
  by_cases hc : f = 0 ∨ f = 255
  · rw [if_pos hc]
    have : IntOp.ori (BitVec.ofBool (decide (y < T 1))) (BitVec.ofBool (decide (y = ⊤))) = 1#1 := by
      rcases hc with hc | hc
      · rw [decide_eq_true (h1.2 hc)]
        cases decide (y = ⊤) <;> rfl
      · rw [decide_eq_true (h255.2 hc)]
        cases decide (y < T 1) <;> rfl
    rw [this]; rfl
  · rw [if_neg hc]
    have n1 : ¬ y < T 1 := fun hh => hc (.inl (h1.1 hh))
    have n2 : ¬ y = ⊤ := fun hh => hc (.inr (h255.1 hh))
    rw [decide_eq_false n1, decide_eq_false n2]
    have sel : ∀ u v : EReal, Scalar.select (IntOp.ori (BitVec.ofBool false) (BitVec.ofBool false)) u v = v := fun u v => rfl
    rw [sel]
    have e : ∀ x : Fin 254, (if y < FloatOps.exp2 (F := Ideal) (φ := .f32) (FloatOps.sitofp (F := Ideal) FTy.f32 (BitVec.ofNat 32 ↑x) - Ideal.ofBits .f32 1123680256#32)
        then FloatOps.sitofp (F := Ideal) FTy.f32 (BitVec.ofNat 32 ↑x) - Ideal.ofBits .f32 1123680256#32 else ((128 : ℝ) : EReal))
        = if y < (((2 : ℝ) ^ ((x.val : ℤ) - 125) : ℝ) : EReal) then ((((x.val : ℤ) - 125 : ℤ) : ℝ) : EReal) else ((128 : ℝ) : EReal) := by
      intro x; rw [sitofp_sub, exp2_int]
    simp only [e]
    have lt_iff : ∀ x : Fin 254, x.val ≠ 253 → (y < (((2 : ℝ) ^ ((x.val : ℤ) - 125) : ℝ) : EReal) ↔ f ≤ x.val + 1) := by
      intro x hx
      have := T_mid (x.val + 2) (by omega) (by omega)
      have e2 : (((x.val + 2 : ℕ) : ℤ) - 127) = (x.val : ℤ) - 125 := by push_cast; ring
      rw [e2] at this
      rw [← this, ← not_le, h _ (by omega)]; omega
    apply le_antisymm
    · rw [Finset.fold_min_le]
      right
      refine ⟨⟨f - 1, by omega⟩, Finset.mem_univ _, ?_⟩
      by_cases h253 : f = 254
      · subst h253
        split_ifs
        · exact EReal.coe_le_coe_iff.2 (by norm_num)
        · exact EReal.coe_le_coe_iff.2 (by norm_num)
      · have hlt := (lt_iff ⟨f - 1, by omega⟩ (by show f - 1 ≠ 253; omega)).2 (by show f ≤ f - 1 + 1; omega)
        rw [if_pos hlt]
        refine EReal.coe_le_coe_iff.2 (Int.cast_le.2 ?_)
        show ((f - 1 : ℕ) : ℤ) - 125 ≤ _
        omega
    · rw [Finset.le_fold_min]
      refine ⟨le_top, fun x _ => ?_⟩
      by_cases h253 : x.val = 253
      · split_ifs
        · refine EReal.coe_le_coe_iff.2 (Int.cast_le.2 ?_); omega
        · refine EReal.coe_le_coe_iff.2 ?_
          have : ((f : ℤ) - 126 : ℤ) ≤ 128 := by omega
          exact_mod_cast this
      · by_cases hx : f ≤ x.val + 1
        · rw [if_pos ((lt_iff x h253).2 hx)]
          refine EReal.coe_le_coe_iff.2 (Int.cast_le.2 ?_); omega
        · rw [if_neg (fun hh => hx ((lt_iff x h253).1 hh))]
          refine EReal.coe_le_coe_iff.2 ?_
          have : ((f : ℤ) - 126 : ℤ) ≤ 128 := by omega
          exact_mod_cast this

/-- The reference's power of two of an integer exponent. -/
theorem rP_int (n : ℤ) : rP ((n : ℝ) : EReal) = if 127 < n then ⊤ else if n < -126 then 0 else (((2 : ℝ) ^ n : ℝ) : EReal) := by
  unfold rP
  rw [c_127, c_top, c_m126, exp2_int]
  have e1 : (((127 : ℝ) : EReal) < ((n : ℝ) : EReal)) ↔ 127 < n := by
    rw [EReal.coe_lt_coe_iff]; exact_mod_cast Iff.rfl
  have e2 : (((n : ℝ) : EReal) < ((-126 : ℝ) : EReal)) ↔ n < -126 := by
    rw [EReal.coe_lt_coe_iff]
    have : ((-126 : ℝ)) = ((-126 : ℤ) : ℝ) := by norm_num
    rw [this, Int.cast_lt]
  simp only [e1, e2]

theorem kP_pos : ∀ f : Fin 256, ¬(f.val = 0 ∨ f.val = 255) →
    IntOp.shli ArithUnit.vector (IntOp.addi (IntOp.minsi (128#32) (IntOp.maxsi (4294967169#32) (IntOp.subi (BitVec.ofNat 32 f.val) 126#32))) 127#32) 23#32
      = word (f.val + 1) := by decide +kernel
theorem kP_neg : ∀ f : Fin 256, ¬(f.val = 0 ∨ f.val = 255) →
    IntOp.shli ArithUnit.vector (IntOp.addi (IntOp.minsi (128#32) (IntOp.maxsi (4294967169#32) (IntOp.subi 0#32 (IntOp.subi (BitVec.ofNat 32 f.val) 126#32)))) 127#32) 23#32
      = word (253 - f.val) := by decide +kernel

theorem kP_zero : kP 0#32 = T 127 := ofBits_word 127 (by norm_num)
theorem kP_neg_zero : kP (IntOp.subi 0#32 0#32) = T 127 := ofBits_word 127 (by norm_num)

theorem rP_zero : rP 0 = T 127 := by
  have := rP_int 0
  simp only [Int.cast_zero, EReal.coe_zero] at this
  rw [this, T_mid 127 (by norm_num) (by norm_num)]; norm_num

/-- The kernel's scale of a row of greatest magnitude `a` is the reference's, and so is the inverse scale. -/
theorem scales_eq (a : EReal) (ha : 0 ≤ a) : kP (kE a) = rP (rE a) ∧ kP (IntOp.subi 0#32 (kE a)) = rP (0 - rE a) := by
  by_cases ha0 : a = 0
  · subst ha0
    have e1 : kE 0 = 0#32 := by unfold kE; rw [if_pos rfl]
    have e2 : rE 0 = 0 := by unfold rE; rw [if_pos rfl]
    rw [e1, e2, sub_zero, kP_zero, kP_neg_zero, rP_zero]; exact ⟨rfl, rfl⟩
  · obtain ⟨f, hf, h⟩ := exists_field (a * Ideal.ofBits .f32 991054117#32) (mul_nonneg ha c_inv448)
    rw [kE_eq a ha ha0 f hf h]
    unfold rE
    rw [if_neg ha0, rFrexp_eq _ (mul_nonneg ha c_inv448) f hf h]
    by_cases hc : f = 0 ∨ f = 255
    · rw [if_pos hc, if_pos hc, sub_zero, kP_zero, kP_neg_zero, rP_zero]; exact ⟨rfl, rfl⟩
    · rw [if_neg hc, if_neg hc]
      have z : (0 : EReal) - ((((f : ℤ) - 126 : ℤ) : ℝ) : EReal) = (((126 - (f : ℤ) : ℤ) : ℝ) : EReal) := by
        rw [← EReal.coe_zero, ← EReal.coe_sub]; refine congrArg Real.toEReal ?_; push_cast; ring
      rw [z, rP_int, rP_int]
      unfold kP
      rw [kP_pos ⟨f, by omega⟩ hc, kP_neg ⟨f, by omega⟩ hc, ofBits_word _ (by show f + 1 < 256; omega),
        ofBits_word _ (by show 253 - f < 256; omega)]
      refine ⟨?_, ?_⟩
      · by_cases h254 : f = 254
        · subst h254; rw [if_pos (by norm_num)]; exact T_top
        · rw [if_neg (by omega), if_neg (by omega), T_mid _ (by show f + 1 ≠ 0; omega) (by show f + 1 ≠ 255; omega)]
          congr 2; show ((f + 1 : ℕ) : ℤ) - 127 = _; push_cast; ring
      · by_cases h253 : 253 ≤ f
        · rw [if_neg (by omega), if_pos (by omega), T_zero' _ (by show 253 - f = 0; omega)]
        · rw [if_neg (by omega), if_neg (by omega), T_mid _ (by show 253 - f ≠ 0; omega) (by show 253 - f ≠ 255; omega)]
          congr 2; show ((253 - f : ℕ) : ℤ) - 127 = _; omega

end Cert.Quant
-- ==== Proof.Spec.lean ====
module

public import proofs.«01_k».proof.Proof.Quant

@[expose] public section

set_option maxRecDepth 16384

/-! # One row of the computation over the extended reals

    Every result of the kernel is a function of one row `x` of the activations, of the weights `W` and of the
    per-column weight scales `S`. This module writes these functions down once, with the reference's scalars; the
    kernel's side and the reference's side are both proved to leave them. -/

noncomputable section
open Idealize.ShloMosaic
namespace Cert.Spec
open Cert.Quant

/-- The greatest magnitude of a row. -/
def rowMax {n : ℕ} (x : Fin n → EReal) : EReal :=
  Finset.fold max (Ideal.ofBits .f32 4286578688#32) (fun k => FloatOps.absf (F := Ideal) (φ := .f32) (x k)) Finset.univ

theorem rowMax_le {n : ℕ} (x : Fin n → EReal) (z : EReal) :
    rowMax x ≤ z ↔ ∀ k, FloatOps.absf (F := Ideal) (φ := .f32) (x k) ≤ z := by
  unfold rowMax
  rw [Finset.fold_max_le, c_bot_f32]
  simp

theorem rowMax_nonneg {n : ℕ} (h : 0 < n) (x : Fin n → EReal) : 0 ≤ rowMax x :=
  (absf_nonneg (x ⟨0, h⟩)).trans ((rowMax_le x _).1 le_rfl _)

/-- A value determined by its upper bounds is the row's greatest magnitude. -/
theorem eq_rowMax {n : ℕ} (x : Fin n → EReal) (a : EReal)
    (h : ∀ z, a ≤ z ↔ ∀ k, FloatOps.absf (F := Ideal) (φ := .f32) (x k) ≤ z) : a = rowMax x :=
  le_antisymm ((h _).2 ((rowMax_le x _).1 le_rfl)) ((rowMax_le x _).2 ((h _).1 le_rfl))

/-- A value times the inverse scale of a row of greatest magnitude `a`, clipped to the format's range. -/
def code (a v : EReal) : EReal :=
  min (Ideal.ofBits .f32 1138753536#32) (max (Ideal.ofBits .f32 3286237184#32) (v * rP (0 - rE a)))

variable (x : Fin 7168 → EReal) (W : Fin 7168 → Fin 10240 → EReal) (S : Fin 10240 → EReal)

/-- The codes of the row. -/
def xCode (k : Fin 7168) : EReal := code (rowMax x) (x k)
/-- The scale of the row. -/
def xScale : EReal := rP (rE (rowMax x))
/-- The product of the row's codes with the weights' column `n`, times both scales. -/
def lin (n : Fin 10240) : EReal := (∑ k, xCode x k * W k n) * xScale x * S n
/-- `silu (gate) * up` of the row at column `n`. -/
def hid (n : Fin 5120) : EReal :=
  lin x W S ⟨n.val, by omega⟩ * Ideal.logistic (lin x W S ⟨n.val, by omega⟩) * lin x W S ⟨5120 + n.val, by omega⟩
/-- The codes of the hidden row. -/
def hCode (n : Fin 5120) : EReal := code (rowMax (hid x W S)) (hid x W S n)
/-- The scale of the hidden row. -/
def hScale : EReal := rP (rE (rowMax (hid x W S)))

/-! ## The four results as arrays -/

section
variable (X : (⟨2, ![4096, 7168]⟩ : Shape).Idx → EReal) (W : (⟨2, ![7168, 10240]⟩ : Shape).Idx → EReal) (S : (⟨2, ![1, 10240]⟩ : Shape).Idx → EReal)

/-- Row `r` of the activations. -/
def rowOf (r : Fin 4096) : Fin 7168 → EReal := fun k => X (ix2 r k)
/-- The weights by row and column. -/
def wOf : Fin 7168 → Fin 10240 → EReal := fun k n => W (ix2 k n)
/-- The weight scales by column. -/
def sOf : Fin 10240 → EReal := fun n => S (ix2 0 n)

/-- The scales of the activations. -/
def XS : (⟨2, ![4096, 1]⟩ : Shape).Idx → EReal := fun i => xScale (rowOf X (i 0))
/-- The codes of the activations. -/
def XC : (⟨2, ![4096, 7168]⟩ : Shape).Idx → EReal := fun i => xCode (rowOf X (i 0)) (i 1)
/-- The scales of the hidden rows. -/
def HS : (⟨2, ![4096, 1]⟩ : Shape).Idx → EReal := fun i => hScale (rowOf X (i 0)) (wOf W) (sOf S)
/-- The codes of the hidden rows. -/
def HC : (⟨2, ![4096, 5120]⟩ : Shape).Idx → EReal := fun i => hCode (rowOf X (i 0)) (wOf W) (sOf S) (i 1)

theorem XS_at (r : Fin 4096) (z : Fin 1) : XS X (ix2 r z) = xScale (rowOf X r) := rfl
theorem XC_at (r : Fin 4096) (k : Fin 7168) : XC X (ix2 r k) = xCode (rowOf X r) k := rfl
theorem HS_at (r : Fin 4096) (z : Fin 1) : HS X W S (ix2 r z) = hScale (rowOf X r) (wOf W) (sOf S) := rfl
theorem HC_at (r : Fin 4096) (n : Fin 5120) : HC X W S (ix2 r n) = hCode (rowOf X r) (wOf W) (sOf S) n := rfl
end

end Cert.Spec
-- ==== Proof.KiPure.lean ====
module

public import proofs.«01_k».proof.Proof.Gen.KernelIdeal.Skeleton
public import proofs.«01_k».proof.Proof.Spec

@[expose] public section

set_option maxRecDepth 16384

/-! # The kernel's payloads over the extended reals, read at an index

    Each payload of the kernel's body is read at one row: the row maximum it takes by lane groups is the maximum of the
    whole row, its exponent and its powers of two are the scalars of `Quant`, its hidden block is the product's block. -/

noncomputable section
open Idealize.ShloMosaic Idealize.ShloMosaic.TcCoe Idealize.SL.Sem
namespace Cert.KernelIdeal.Hand
open Cert.KernelIdeal Cert.KernelIdeal.Gen Cert.Quant Cert.Spec

/-! ## The scale's exponent and powers of two -/

theorem pay7_apply (v : FVec Ideal S512x1 .f32) (p : Fin 512) : k0_pay7 (F := Ideal) v (ix2 p 0) = kE (v (ix2 p 0)) := by
  pointwise [k0_pay7]
  unfold kE kField
  with_reducible rfl

theorem pay8_apply (v : FVec Ideal S512x1 .f32) (p : Fin 512) : k0_pay8 (F := Ideal) v (ix2 p 0) = kP (k0_pay7 (F := Ideal) v (ix2 p 0)) := by
  pointwise [k0_pay8]
  unfold kP
  with_reducible rfl

theorem pay9_apply (v : FVec Ideal S512x1 .f32) (p : Fin 512) :
    k0_pay9 (F := Ideal) v (ix2 p 0) = IntOp.minsi (128#32) (IntOp.maxsi (4294967169#32) (IntOp.subi (0#32) (k0_pay7 (F := Ideal) v (ix2 p 0)))) := by
  pointwise [k0_pay9]

theorem pay14_apply (x : FVec Ideal S512x7168 .bf16) (a : IVec S512x1 32) (p : Fin 512) (k : Fin 7168) (e : BitVec 32)
    (ha : a (ix2 p 0) = IntOp.minsi (128#32) (IntOp.maxsi (4294967169#32) e)) :
    k0_pay14 (F := Ideal) x a k0_pay10 (ix2 p k)
      = min (Ideal.ofBits .f32 1138753536#32) (max (Ideal.ofBits .f32 3286237184#32) (x (ix2 p k) * kP e)) := by
  pointwise [k0_pay14, k0_pay10, ha]
  unfold kP
  with_reducible rfl

/-- The greatest entry of a row of the running maxima. -/
def laneMax (v : FVec Ideal S512x128 .f32) (p : Fin 512) : EReal :=
  Finset.fold max (Ideal.ofBits .f32 4286578688#32) (fun x => v (ix2 p x)) Finset.univ

theorem pay11_apply (v : FVec Ideal S512x128 .f32) (p : Fin 512) : k0_pay11 (F := Ideal) v (ix2 p 0) = kE (laneMax v p) := by
  pointwise [k0_pay11]
  unfold kE kField laneMax
  with_reducible rfl

theorem pay12_apply (v : FVec Ideal S512x128 .f32) (p : Fin 512) : k0_pay12 (F := Ideal) v (ix2 p 0) = kP (k0_pay11 (F := Ideal) v (ix2 p 0)) := by
  pointwise [k0_pay12]
  unfold kP
  with_reducible rfl

theorem pay13_apply (v : FVec Ideal S512x128 .f32) (p : Fin 512) :
    k0_pay13 (F := Ideal) v (ix2 p 0) = IntOp.subi (0#32) (k0_pay11 (F := Ideal) v (ix2 p 0)) := by
  pointwise [k0_pay13]

theorem pay2_apply (a : IVec S512x1 32) (h : FVec Ideal S512x5120 .f32) (p : Fin 512) (n : Fin 5120) :
    k0_pay2 (F := Ideal) a 4294967169#32 128#32 h (ix2 p n)
      = min (Ideal.ofBits .f32 1138753536#32) (max (Ideal.ofBits .f32 3286237184#32) (h (ix2 p n) * kP (a (ix2 p 0)))) := by
  pointwise [k0_pay2]
  unfold kP
  with_reducible rfl

/-! ## The row maximum by lane groups -/

/-- The maximum of `v 0`, …, `v n`, taken from the left. -/
def chain (v : ℕ → EReal) : ℕ → EReal
  | 0 => v 0
  | n + 1 => max (chain v n) (v (n + 1))

theorem chain_le (v : ℕ → EReal) (z : EReal) : ∀ n, chain v n ≤ z ↔ ∀ g ≤ n, v g ≤ z
  | 0 => by simp [chain]
  | n + 1 => by
    rw [chain, max_le_iff, chain_le v z n]
    constructor
    · rintro ⟨h, h'⟩ g hg
      rcases Nat.lt_or_ge g (n + 1) with hl | hl
      · exact h g (by omega)
      · rw [show g = n + 1 by omega]; exact h'
    · exact fun h => ⟨fun g hg => h g (by omega), h _ le_rfl⟩

theorem pay5_apply (x : FVec Ideal S512x7168 .bf16) (p : Fin 512) (l : Fin 128) (u : ℕ → EReal)
    (hu : ∀ k (h : k < 7168), k0_pay4 (F := Ideal) x (ix2 p ⟨k, h⟩) = u k) :
    k0_pay5 (F := Ideal) x (ix2 p l) = chain (fun g => u (128 * g + l.val)) 27 := by
  pointwise [k0_pay5, hu]
  simp only [chain, Nat.reduceMul, zero_add]

theorem pay6_apply (w : FVec Ideal S512x7168 .bf16) (v : FVec Ideal S512x128 .bf16) (p : Fin 512) (u : ℕ → EReal)
    (hu : ∀ k (h : k < 7168), w (ix2 p ⟨k, h⟩) = u k) (hv : ∀ l : Fin 128, v (ix2 p l) = chain (fun g => u (128 * g + l.val)) 27) :
    k0_pay6 (F := Ideal) w v (ix2 p 0)
      = Finset.fold max (Ideal.ofBits .bf16 65408#16) (fun l : Fin 128 => chain (fun g => u (128 * g + l.val)) 55) Finset.univ := by
  pointwise [k0_pay6, hu, hv]
  simp only [chain, Nat.reduceMul, zero_add]

end Cert.KernelIdeal.Hand
-- ==== Proof.KiTile.lean ====
module

public import proofs.«01_k».proof.Proof.KiPure
public import proofs.«01_k».proof.Proof.KiRun

@[expose] public section

set_option maxRecDepth 16384

/-! # One grid point's vectors over the extended reals

    The codes and the scales the first point of a row block makes, and the tile of hidden values and its lane maxima a
    point makes, each read at an index as the functions of `Spec` of one row of the block. -/

noncomputable section
open Idealize.ShloMosaic Idealize.ShloMosaic.TcCoe Idealize.SL.Sem
namespace Cert.KernelIdeal.Hand
open Cert.KernelIdeal Cert.KernelIdeal.Gen Cert.Quant Cert.Spec

theorem pay3_apply (x : FVec Ideal S512x7168 .bf16) (p : Fin 512) (k : Fin 7168) : k0_pay3 (F := Ideal) x (ix2 p k) = x (ix2 p k) := by
  pointwise [k0_pay3]

theorem pay4_apply (x : FVec Ideal S512x7168 .bf16) (p : Fin 512) (k : Fin 7168) :
    k0_pay4 (F := Ideal) x (ix2 p k) = FloatOps.absf (F := Ideal) (φ := .f32) (x (ix2 p k)) := by
  pointwise [k0_pay4, k0_pay3]
  rfl

/-- The magnitudes of a row by column number. -/
def absAt (y : Fin 7168 → EReal) (k : ℕ) : EReal :=
  if h : k < 7168 then FloatOps.absf (F := Ideal) (φ := .f32) (y ⟨k, h⟩) else 0

/-- The maximum the kernel takes by lane groups is the row's greatest magnitude. -/
theorem xmax_apply (x : FVec Ideal S512x7168 .bf16) (p : Fin 512) :
    k0_pay6 (F := Ideal) (k0_pay4 x) (k0_pay5 x) (ix2 p 0) = rowMax fun k => x (ix2 p k) := by
  have hu : ∀ k (h : k < 7168), k0_pay4 (F := Ideal) x (ix2 p ⟨k, h⟩) = absAt (fun k => x (ix2 p k)) k := fun k h => by
    rw [pay4_apply]; unfold absAt; rw [dif_pos h]
  refine (pay6_apply _ _ p _ hu fun l => pay5_apply x p l _ hu).trans ?_
  refine eq_rowMax _ _ fun z => ?_
  rw [Finset.fold_max_le, c_bot_bf16]
  simp only [chain_le]
  constructor
  · rintro ⟨-, h⟩ k
    have := h ⟨k.val % 128, Nat.mod_lt _ (by norm_num)⟩ (Finset.mem_univ _) (k.val / 128) (by have := k.isLt; omega)
    have e : 128 * (k.val / 128) + k.val % 128 = k.val := by omega
    simp only [e] at this
    unfold absAt at this
    rw [dif_pos k.isLt] at this
    exact this
  · refine fun h => ⟨bot_le, fun l _ g hg => ?_⟩
    unfold absAt
    rw [dif_pos (by have := l.isLt; omega)]
    exact h _

/-- The codes of a block's rows. -/
theorem qx_apply (x : FVec Ideal S512x7168 .bf16) (p : Fin 512) (k : Fin 7168) :
    qx (F := Ideal) x (ix2 p k) = xCode (fun k => x (ix2 p k)) k := by
  unfold qx
  refine (pay14_apply _ _ p k _ (pay9_apply _ p)).trans ?_
  rw [pay7_apply, xmax_apply, (scales_eq _ (rowMax_nonneg (by norm_num) _)).2, pay3_apply]
  unfold xCode code
  with_reducible rfl

/-- The scales of a block's rows. -/
theorem sx_apply (x : FVec Ideal S512x7168 .bf16) (p : Fin 512) : sx (F := Ideal) x (ix2 p 0) = xScale fun k => x (ix2 p k) := by
  unfold sx
  rw [pay8_apply, pay7_apply, xmax_apply, (scales_eq _ (rowMax_nonneg (by norm_num) _)).1]
  unfold xScale
  with_reducible rfl

/-- The tile of hidden values of one point. -/
theorem pay16_apply (xq : FVec Ideal S512x7168 .fp8e4m3) (xs : FVec Ideal S512x1 .f32) (wg wu : FVec Ideal S7168x256 .fp8e4m3)
    (sg su : FVec Ideal S1x256 .f32) (p : Fin 512) (q : Fin 256) (x : Fin 7168 → EReal) (W : Fin 7168 → Fin 10240 → EReal) (S : Fin 10240 → EReal)
    (n : Fin 5120) (hq : ∀ k, xq (ix2 p k) = xCode x k) (hs : xs (ix2 p 0) = xScale x)
    (hg : ∀ k, wg (ix2 k q) = W k ⟨n.val, by omega⟩) (hu : ∀ k, wu (ix2 k q) = W k ⟨5120 + n.val, by omega⟩)
    (hsg : sg (ix2 0 q) = S ⟨n.val, by omega⟩) (hsu : su (ix2 0 q) = S ⟨5120 + n.val, by omega⟩) :
    k0_pay16 (F := Ideal) xq xs wg wu sg su (ix2 p q) = hid x W S n := by
  pointwise [k0_pay16, hq, hs, hg, hu, hsg, hsu]
  unfold hid lin
  with_reducible rfl

theorem pay17_apply (xq : FVec Ideal S512x7168 .fp8e4m3) (xs : FVec Ideal S512x1 .f32) (wg wu : FVec Ideal S7168x256 .fp8e4m3)
    (sg su : FVec Ideal S1x256 .f32) (p : Fin 512) (q : Fin 256) :
    k0_pay17 (F := Ideal) xq xs wg wu sg su (ix2 p q) = k0_pay16 (F := Ideal) xq xs wg wu sg su (ix2 p q) := by
  pointwise [k0_pay17]

/-- The lane maxima of a point's tile. -/
theorem pay18_apply (xq : FVec Ideal S512x7168 .fp8e4m3) (xs : FVec Ideal S512x1 .f32) (wg wu : FVec Ideal S7168x256 .fp8e4m3)
    (sg su : FVec Ideal S1x256 .f32) (p : Fin 512) (l : Fin 128) :
    k0_pay18 (F := Ideal) xq xs wg wu sg su (ix2 p l)
      = max (FloatOps.absf (F := Ideal) (φ := .f32) (k0_pay16 (F := Ideal) xq xs wg wu sg su (ix2 p ⟨l.val, by omega⟩)))
          (FloatOps.absf (F := Ideal) (φ := .f32) (k0_pay16 (F := Ideal) xq xs wg wu sg su (ix2 p ⟨128 + l.val, by omega⟩))) := by
  pointwise [k0_pay18]

theorem pay1_apply (a b : FVec Ideal S512x128 .f32) (p : Fin 512) (l : Fin 128) :
    k0_pay1 (F := Ideal) a b (ix2 p l) = max (a (ix2 p l)) (b (ix2 p l)) := by
  pointwise [k0_pay1]

theorem pay15_apply (p : Fin 512) (l : Fin 128) : k0_pay15 (F := Ideal) (ix2 p l) = 0 := by
  pointwise [k0_pay15]

end Cert.KernelIdeal.Hand
-- ==== Proof.KiValue.lean ====
module

public import proofs.«01_k».proof.Proof.KiTile
public import proofs.«01_k».proof.Proof.KiBody
public import Idealize.ShloMosaic.Lib.Claim

@[expose] public section

set_option maxRecDepth 16384

/-! # The kernel's grid over the extended reals

    The blocks a point reads are placed in the argument arrays; the tiles of a row block make up its hidden rows, the
    running lane maxima their greatest magnitudes; so each flushed block is the block of the result array of `Spec`. -/

noncomputable section
open Idealize.ShloMosaic Idealize.ShloMosaic.TcCoe Idealize.SL.Sem
open Idealize.ShloMosaic.Pipeline (Dat RDat)
namespace Cert.KernelIdeal.Hand
open Cert.KernelIdeal Cert.KernelIdeal.Gen Cert.Quant
open Cert.Spec (rowMax eq_rowMax rowMax_le rowMax_nonneg code xCode xScale lin hid hCode hScale rowOf wOf sOf)
variable (m : (ℓ : Loc nD τ sig) → Buf (Elt Ideal) ℓ)

theorem idx : ∀ t : Fin cfg0.N, win0_0.index t = ![t.val / 20, 0] ∧ win0_1.index t = ![0, t.val % 20] ∧ win0_2.index t = ![0, t.val % 20 + 20]
    ∧ win0_3.index t = ![0, t.val % 20] ∧ win0_4.index t = ![0, t.val % 20 + 20] ∧ win0_5.index t = ![t.val / 20, 0]
    ∧ win0_6.index t = ![t.val / 20, 0] ∧ win0_7.index t = ![t.val / 20, 0] ∧ win0_8.index t = ![t.val / 20, 0] ∧ t.val / 20 < 8 :=
  (by decide +kernel : ∀ t : Fin grid0.N, _)

/-- The activations, as the region finds them. -/
def X (c : Dev nD) : FVec Ideal S4096x7168 .bf16 := V m c main_v0
/-- The weights, as the region finds them. -/
def W (c : Dev nD) : FVec Ideal S7168x10240 .fp8e4m3 := V m c main_arg1
/-- The weight scales, as the region finds them. -/
def S (c : Dev nD) : FVec Ideal S1x10240 .f32 := V m c main_v1

/-- The array's row that row `p` of point `t`'s block is. -/
def rw_ (t : Fin cfg0.N) (p : Fin 512) : Fin 4096 := ⟨512 * (t.val / 20) + p.val, by have := (idx t).2.2.2.2.2.2.2.2.2; omega⟩
/-- The hidden column that column `q` of point `t`'s tile is. -/
def cl_ (t : Fin cfg0.N) (q : Fin 256) : Fin 5120 := ⟨256 * (t.val % 20) + q.val, by omega⟩

theorem rw_congr {s t : Fin cfg0.N} (h : s.val / 20 = t.val / 20) (p : Fin 512) : rw_ s p = rw_ t p := Fin.ext (by show 512 * (s.val / 20) + p.val = _; rw [h]; rfl)

theorem first_div (t : Fin cfg0.N) : (first t).val / 20 = t.val / 20 := by show 20 * (t.val / 20) / 20 = _; omega

theorem xb_apply (c : Dev nD) (t : Fin cfg0.N) (p : Fin 512) (k : Fin 7168) : xb m c t (ix2 p k) = X m c (ix2 (rw_ t p) k) := by
  unfold xb X rw_
  blk_ext [iblk, idx t]
theorem wgb_apply (c : Dev nD) (t : Fin cfg0.N) (k : Fin 7168) (q : Fin 256) :
    wgb m c t (ix2 k q) = W m c (ix2 k ⟨(cl_ t q).val, by omega⟩) := by
  unfold wgb W cl_
  blk_ext [iblk, idx t]
theorem wub_apply (c : Dev nD) (t : Fin cfg0.N) (k : Fin 7168) (q : Fin 256) :
    wub m c t (ix2 k q) = W m c (ix2 k ⟨5120 + (cl_ t q).val, by omega⟩) := by
  unfold wub W cl_
  blk_ext [iblk, idx t]
theorem sgb_apply (c : Dev nD) (t : Fin cfg0.N) (q : Fin 256) :
    sgb m c t (ix2 0 q) = S m c (ix2 0 ⟨(cl_ t q).val, by omega⟩) := by
  unfold sgb S cl_
  blk_ext [iblk, idx t]
theorem sub_apply (c : Dev nD) (t : Fin cfg0.N) (q : Fin 256) :
    sub m c t (ix2 0 q) = S m c (ix2 0 ⟨5120 + (cl_ t q).val, by omega⟩) := by
  unfold sub S cl_
  blk_ext [iblk, idx t]

/-- The hidden row `r`. -/
def hrow (c : Dev nD) (r : Fin 4096) : Fin 5120 → EReal := hid (rowOf (X m c) r) (wOf (W m c)) (sOf (S m c))

theorem XC_apply (c : Dev nD) (t : Fin cfg0.N) (p : Fin 512) (k : Fin 7168) : XC m c t (ix2 p k) = xCode (rowOf (X m c) (rw_ t p)) k := by
  unfold XC
  rw [qx_apply]
  simp only [xb_apply, rw_congr (first_div t)]
  rfl

theorem XS_apply (c : Dev nD) (t : Fin cfg0.N) (p : Fin 512) : XS m c t (ix2 p 0) = xScale (rowOf (X m c) (rw_ t p)) := by
  unfold XS
  rw [sx_apply]
  simp only [xb_apply, rw_congr (first_div t)]
  rfl

theorem tile_apply (c : Dev nD) (t : Fin cfg0.N) (p : Fin 512) (q : Fin 256) :
    k0_pay16 (F := Ideal) (XC m c t) (XS m c t) (wgb m c t) (wub m c t) (sgb m c t) (sub m c t) (ix2 p q) = hrow m c (rw_ t p) (cl_ t q) :=
  pay16_apply _ _ _ _ _ _ p q _ (wOf (W m c)) (sOf (S m c)) (cl_ t q) (XC_apply m c t p) (XS_apply m c t p) (fun k => wgb_apply m c t k q) (fun k => wub_apply m c t k q)
    (sgb_apply m c t q) (sub_apply m c t q)

theorem HB_apply (c : Dev nD) (t : Fin cfg0.N) (p : Fin 512) (q : Fin 256) : HB m c t (ix2 p q) = hrow m c (rw_ t p) (cl_ t q) := by
  unfold HB
  rw [pay17_apply, tile_apply]

theorem MB_apply (c : Dev nD) (t : Fin cfg0.N) (p : Fin 512) (l : Fin 128) :
    MB m c t (ix2 p l) = max (FloatOps.absf (F := Ideal) (φ := .f32) (hrow m c (rw_ t p) (cl_ t ⟨l.val, by omega⟩)))
      (FloatOps.absf (F := Ideal) (φ := .f32) (hrow m c (rw_ t p) (cl_ t ⟨128 + l.val, by omega⟩))) := by
  unfold MB
  rw [pay18_apply, tile_apply, tile_apply]

/-- The running lane maxima, by their upper bounds: zero, and the lane's magnitudes in the tiles of the row block so far. -/
theorem MX_le (c : Dev nD) (p : Fin 512) (l : Fin 128) (z : EReal) : ∀ (n : ℕ) (h : n < cfg0.N),
    MX m c (n + 1) (ix2 p l) ≤ z ↔ 0 ≤ z ∧ ∀ s : Fin cfg0.N, s.val / 20 = n / 20 → s.val ≤ n → MB m c s (ix2 p l) ≤ z := by
  intro n
  induction n with
  | zero =>
    intro h
    have e := MX_succ m c ⟨0, h⟩
    simp only [] at e
    rw [e, if_pos (by norm_num), pay1_apply, pay15_apply, max_le_iff]
    refine and_congr_right fun _ => ⟨fun h' s _ hs => ?_, fun h' => h' _ rfl le_rfl⟩
    have : s = ⟨0, h⟩ := Fin.ext (by show s.val = 0; omega)
    rw [this]; exact h'
  | succ n ih =>
    intro h
    have e := MX_succ m c ⟨n + 1, h⟩
    simp only [] at e
    rw [e, pay1_apply, max_le_iff]
    by_cases h0 : (n + 1) % 20 = 0
    · rw [if_pos h0, pay15_apply]
      refine and_congr_right fun _ => ⟨fun h' s hd hs => ?_, fun h' => h' _ rfl le_rfl⟩
      have : s = ⟨n + 1, h⟩ := Fin.ext (by show s.val = n + 1; omega)
      rw [this]; exact h'
    · rw [if_neg h0, ih (by omega), and_assoc]
      refine and_congr_right fun _ => ⟨fun h' s hd hs => ?_, fun h' => ⟨fun s hd hs => h' s (by omega) (by omega), h' _ rfl le_rfl⟩⟩
      rcases Nat.lt_or_ge s.val (n + 1) with hl | hl
      · exact h'.1 s (by omega) (by omega)
      · have : s = ⟨n + 1, h⟩ := Fin.ext (by show s.val = n + 1; omega)
        rw [this]; exact h'.2

/-- At the last point of a row block the greatest running maximum of a row is the hidden row's greatest magnitude. -/
theorem laneMax_MX (c : Dev nD) (t : Fin cfg0.N) (ht : t.val % 20 = 19) (p : Fin 512) :
    laneMax (MX m c (t.val + 1)) p = rowMax (hrow m c (rw_ t p)) := by
  refine eq_rowMax _ _ fun z => ?_
  unfold laneMax
  rw [Finset.fold_max_le, c_bot_f32]
  simp only [MX_le m c p _ z t.val t.isLt, MB_apply, max_le_iff]
  have hN : cfg0.N = 160 := N_0
  constructor
  · rintro ⟨-, h⟩ k
    have hk := k.isLt
    have htl := t.isLt
    let s : Fin cfg0.N := ⟨20 * (t.val / 20) + k.val / 256, by omega⟩
    have hsd : s.val / 20 = t.val / 20 := by show (20 * (t.val / 20) + k.val / 256) / 20 = _; omega
    have hsm : s.val % 20 = k.val / 256 := by show (20 * (t.val / 20) + k.val / 256) % 20 = _; omega
    have hsl : s.val ≤ t.val := by show 20 * (t.val / 20) + k.val / 256 ≤ _; omega
    have h1 := (h ⟨k.val % 128, Nat.mod_lt _ (by norm_num)⟩ (Finset.mem_univ _)).2 s hsd hsl
    rw [rw_congr hsd] at h1
    rcases Nat.lt_or_ge (k.val % 256) 128 with hl | hl
    · have : cl_ s ⟨k.val % 128, by omega⟩ = k := Fin.ext (by show 256 * (s.val % 20) + k.val % 128 = k.val; rw [hsm]; omega)
      have h2 := h1.1
      rw [this] at h2; exact h2
    · have : cl_ s ⟨128 + k.val % 128, by omega⟩ = k := Fin.ext (by show 256 * (s.val % 20) + (128 + k.val % 128) = k.val; rw [hsm]; omega)
      have h2 := h1.2
      rw [this] at h2; exact h2
  · refine fun h => ⟨bot_le, fun l _ => ⟨(absf_nonneg _).trans (h 0), fun s hsd _ => ?_⟩⟩
    rw [rw_congr hsd]
    exact ⟨h _, h _⟩

/-- A buffer that holds the tiles of a row block holds its hidden rows. -/
theorem done_apply (c : Dev nD) (t : Fin cfg0.N) (ht : t.val % 20 = 19) (xH : FVec Ideal S512x5120 .f32) (h : DoneH m c t xH) (p : Fin 512) (n : Fin 5120) :
    xH (ix2 p n) = hrow m c (rw_ t p) n := by
  have hN : cfg0.N = 160 := N_0
  have hn := n.isLt
  have htl := t.isLt
  let s : Fin cfg0.N := ⟨20 * (t.val / 20) + n.val / 256, by omega⟩
  have hsd : s.val / 20 = t.val / 20 := by show (20 * (t.val / 20) + n.val / 256) / 20 = _; omega
  have hsm : s.val % 20 = n.val / 256 := by show (20 * (t.val / 20) + n.val / 256) % 20 = _; omega
  have hsl : s.val ≤ t.val := by show 20 * (t.val / 20) + n.val / 256 ≤ _; omega
  have hw := congrFun (h s hsd hsl) (ix2 p ⟨n.val % 256, Nat.mod_lt _ (by norm_num)⟩)
  rw [HB_apply, rw_congr hsd] at hw
  have e1 : cl_ s ⟨n.val % 256, Nat.mod_lt _ (by norm_num)⟩ = n := Fin.ext (by show 256 * (s.val % 20) + n.val % 256 = n.val; rw [hsm]; omega)
  rw [e1] at hw
  rw [← hw]
  unfold VecWindow.window
  refine congrArg xH ?_
  have ho := off1_eq s
  have o0 : k0_off1 (grid0.coords s) 0 = 0 := congrFun ho 0
  have o1 : k0_off1 (grid0.coords s) 1 = 256 * (s.val % 20) := congrFun ho 1
  funext a
  apply Fin.ext
  match a with
  | 0 =>
    show p.val = k0_off1 (grid0.coords s) 0 + 1 * p.val
    rw [o0]; omega
  | 1 =>
    show n.val = k0_off1 (grid0.coords s) 1 + 1 * (n.val % 256)
    rw [o1, hsm]; omega

/-- The block of hidden scales that is written back. -/
theorem hs_apply (c : Dev nD) (t : Fin cfg0.N) (ht : t.val % 20 = 19) (p : Fin 512) :
    k0_pay12 (F := Ideal) (MX m c (t.val + 1)) (ix2 p 0) = hScale (rowOf (X m c) (rw_ t p)) (wOf (W m c)) (sOf (S m c)) := by
  rw [pay12_apply, pay11_apply, laneMax_MX m c t ht, (scales_eq _ (rowMax_nonneg (by norm_num) _)).1]
  unfold hScale hrow
  with_reducible rfl

/-- The block of hidden codes that is written back. -/
theorem hc_apply (c : Dev nD) (t : Fin cfg0.N) (ht : t.val % 20 = 19) (xH : FVec Ideal S512x5120 .f32) (h : DoneH m c t xH) (p : Fin 512) (n : Fin 5120) :
    k0_pay2 (F := Ideal) (k0_pay13 (F := Ideal) (MX m c (t.val + 1))) 4294967169#32 128#32 xH (ix2 p n)
      = hCode (rowOf (X m c) (rw_ t p)) (wOf (W m c)) (sOf (S m c)) n := by
  rw [pay2_apply, pay13_apply, pay11_apply, laneMax_MX m c t ht, (scales_eq _ (rowMax_nonneg (by norm_num) _)).2, done_apply m c t ht xH h]
  unfold hCode code hrow
  with_reducible rfl

end Cert.KernelIdeal.Hand
-- ==== Proof.KiArr.lean ====
module

public import proofs.«01_k».proof.Proof.KiValue
public import Idealize.ShloMosaic.Lib.Pipeline.ArrRel

@[expose] public section

set_option maxRecDepth 16384

/-! # The kernel's four result arrays over the extended reals -/

noncomputable section
open Idealize.ShloMosaic Idealize.ShloMosaic.TcCoe Idealize.SL.Sem
open Idealize.ShloMosaic.Pipeline (Dat RDat)
namespace Cert.KernelIdeal.Hand
open Cert.KernelIdeal Cert.KernelIdeal.Gen
variable (m : (ℓ : Loc nD τ sig) → Buf (Elt Ideal) ℓ)

/-- The results are written back at the last point of a row block. -/
theorem flush_last : ∀ t : Fin cfg0.N, (win0_5.flush t = true → t.val % 20 = 19) ∧ (win0_6.flush t = true → t.val % 20 = 19) :=
  (by decide +kernel : ∀ t : Fin grid0.N, _)

theorem emb5 (t : Fin cfg0.N) (p : Fin 512) : (win0_5.blk t).view.emb (ix2 p (0 : Fin 1)) = ix2 (rw_ t p) (0 : Fin 1) := by
  unfold rw_; blk_ext [idx t]
theorem emb6 (t : Fin cfg0.N) (p : Fin 512) (n : Fin 5120) : (win0_6.blk t).view.emb (ix2 p n) = ix2 (rw_ t p) n := by
  unfold rw_; blk_ext [idx t]
theorem emb7 (t : Fin cfg0.N) (p : Fin 512) (k : Fin 7168) : (win0_7.blk t).view.emb (ix2 p k) = ix2 (rw_ t p) k := by
  unfold rw_; blk_ext [idx t]
theorem emb8 (t : Fin cfg0.N) (p : Fin 512) : (win0_8.blk t).view.emb (ix2 p (0 : Fin 1)) = ix2 (rw_ t p) (0 : Fin 1) := by
  unfold rw_; blk_ext [idx t]

variable (after : (w : Fin cfg0.W) → Fin cfg0.N → (cfg0.win w).block.Idx → Elt Ideal (cfg0.win w).elt)

/-- The scales of the hidden rows are the kernel's array 1, whatever the body left where the relation does not say. -/
theorem arr5 (c : Dev nD) (h : ∀ u, (cfg0.win 5).flush u = true → Rl m c 5 u (after 5 u)) :
    ((rdat m c).withAfter after).arrAt 5 cfg0.N = Cert.Spec.HS (X m c) (W m c) (S m c) := by
  refine Dat.arrAt_eq_of_covers _ 5 _ (by decide +kernel) fun t hf y => ?_
  have ht := (flush_last t).1 hf
  have e := h t hf ht
  obtain ⟨p, q, rfl⟩ : ∃ (p : Fin 512) (q : Fin 1), y = ix2 p q := ⟨y 0, y 1, eq_ix2 y⟩
  obtain rfl : q = 0 := Subsingleton.elim _ _
  blk_simp
  refine (congrFun e _).trans ((hs_apply m c t ht p).trans ?_)
  refine Eq.trans ?_ (congrArg (Cert.Spec.HS (X m c) (W m c) (S m c)) (emb5 t p)).symm
  exact (Cert.Spec.HS_at _ _ _ _ _).symm

/-- The codes of the hidden rows are the kernel's array 2, whatever the body left where the relation does not say. -/
theorem arr6 (c : Dev nD) (h : ∀ u, (cfg0.win 6).flush u = true → Rl m c 6 u (after 6 u)) :
    ((rdat m c).withAfter after).arrAt 6 cfg0.N = Cert.Spec.HC (X m c) (W m c) (S m c) := by
  refine Dat.arrAt_eq_of_covers _ 6 _ (by decide +kernel) fun t hf y => ?_
  have ht := (flush_last t).2 hf
  obtain ⟨xH, hD, e⟩ := h t hf ht
  obtain ⟨p, q, rfl⟩ : ∃ (p : Fin 512) (q : Fin 5120), y = ix2 p q := ⟨y 0, y 1, eq_ix2 y⟩
  blk_simp
  refine (congrFun e _).trans ((hc_apply m c t ht xH hD p q).trans ?_)
  refine Eq.trans ?_ (congrArg (Cert.Spec.HC (X m c) (W m c) (S m c)) (emb6 t p q)).symm
  exact (Cert.Spec.HC_at _ _ _ _ _).symm

/-- The codes of the activations are the kernel's array 3, whatever the body left where the relation does not say. -/
theorem arr7 (c : Dev nD) (h : ∀ u, (cfg0.win 7).flush u = true → Rl m c 7 u (after 7 u)) :
    ((rdat m c).withAfter after).arrAt 7 cfg0.N = Cert.Spec.XC (X m c) := by
  refine Dat.arrAt_eq_of_covers _ 7 _ (by decide +kernel) fun t hf y => ?_
  have e := h t hf
  obtain ⟨p, q, rfl⟩ : ∃ (p : Fin 512) (q : Fin 7168), y = ix2 p q := ⟨y 0, y 1, eq_ix2 y⟩
  blk_simp
  refine (congrFun e _).trans ((XC_apply m c t p q).trans ?_)
  refine Eq.trans ?_ (congrArg (Cert.Spec.XC (X m c)) (emb7 t p q)).symm
  exact (Cert.Spec.XC_at _ _ _).symm

/-- The scales of the activations are the kernel's array 4, whatever the body left where the relation does not say. -/
theorem arr8 (c : Dev nD) (h : ∀ u, (cfg0.win 8).flush u = true → Rl m c 8 u (after 8 u)) :
    ((rdat m c).withAfter after).arrAt 8 cfg0.N = Cert.Spec.XS (X m c) := by
  refine Dat.arrAt_eq_of_covers _ 8 _ (by decide +kernel) fun t hf y => ?_
  have e := h t hf
  obtain ⟨p, q, rfl⟩ : ∃ (p : Fin 512) (q : Fin 1), y = ix2 p q := ⟨y 0, y 1, eq_ix2 y⟩
  obtain rfl : q = 0 := Subsingleton.elim _ _
  blk_simp
  refine (congrFun e _).trans ((XS_apply m c t p).trans ?_)
  refine Eq.trans ?_ (congrArg (Cert.Spec.XS (X m c)) (emb8 t p)).symm
  exact (Cert.Spec.XS_at _ _ _).symm

variable {m}

/-- After the run the result arrays are those of `Spec`, of what the region finds in its operands. -/
theorem results {r : PUnit × MemSt nD τ sig (Elt Ideal)} (h : RDat.FramePost (cfgs 0) (rdat m) (V m) r) (c : Dev nD) :
    r.2.mem ((c : Thread nD τ).loc main_v2_0) = Cert.Spec.HS (X m c) (W m c) (S m c)
    ∧ r.2.mem ((c : Thread nD τ).loc main_v2_1) = Cert.Spec.HC (X m c) (W m c) (S m c)
    ∧ r.2.mem ((c : Thread nD τ).loc main_v2_2) = Cert.Spec.XC (X m c)
    ∧ r.2.mem ((c : Thread nD τ).loc main_v2_3) = Cert.Spec.XS (X m c) := by
  obtain ⟨after, hL, hA⟩ := h.exists_exact c
  exact ⟨(hA 5).trans (arr5 m after c fun u hf => Dat.toRRel_leaves (dats m 0 c) (w := 5) rfl (hL 5 u hf)),
    (hA 6).trans (arr6 m after c fun u hf => Dat.toRRel_leaves (dats m 0 c) (w := 6) rfl (hL 6 u hf)),
    (hA 7).trans (arr7 m after c fun u hf => Dat.toRRel_leaves (dats m 0 c) (w := 7) rfl (hL 7 u hf)),
    (hA 8).trans (arr8 m after c fun u hf => Dat.toRRel_leaves (dats m 0 c) (w := 8) rfl (hL 8 u hf))⟩

end Cert.KernelIdeal.Hand
-- ==== Proof.RefPure.lean ====
module

public import proofs.«01_k».proof.Proof.Gen.ReferenceIdeal.Frame
public import proofs.«01_k».proof.Proof.Spec

@[expose] public section

set_option maxRecDepth 16384
noncomputable section
open Idealize.ShloMosaic Idealize.ShloMosaic.TcCoe Idealize.SL.Sem
namespace Cert.ReferenceIdeal.Hand
open Cert.ReferenceIdeal Cert.ReferenceIdeal.Gen Cert.Quant Cert.Spec

/-- A vector of rows, read as one column. -/
theorem col_apply (v : FVec Ideal S4096 .f32) (p : Fin 4096) : shapeCast S4096x1 v shapeCasts_S4096_S4096x1 (ix2 p 0) = v (ix1 p) := by
  pointwise
theorem rmax_x (v : FVec Ideal S4096x7168 .f32) (p : Fin 4096) : multiReduction .maximumf [1] S4096 (absf v) 0xFF800000#32 reduces_S4096x7168_S4096 (.inl rfl) rfl (ix1 p)
    = rowMax fun k => v (ix2 p k) := by
  pointwise
  unfold rowMax
  with_reducible rfl
theorem rmax_h (v : FVec Ideal S4096x5120 .f32) (p : Fin 4096) : multiReduction .maximumf [1] S4096 (absf v) 0xFF800000#32 reduces_S4096x5120_S4096 (.inl rfl) rfl (ix1 p)
    = rowMax fun k => v (ix2 p k) := by
  pointwise
  unfold rowMax
  with_reducible rfl
theorem rmin (v : FVec Ideal S4096x254 .f32) (p : Fin 4096) :  multiReduction .minimumf [1] S4096 v 0x7F800000#32 reduces_S4096x254_S4096 (.inl rfl) rfl (ix1 p) = Finset.fold min (Ideal.ofBits FTy.f32 2139095040#32) (fun x => (v (ix2 p x))) Finset.univ := by
  pointwise
theorem pay2_apply (v : FVec Ideal S4096x7168 .bf16) (p : Fin 4096) (k) : k0_pay2 (F := Ideal) v (ix2 p k) = v (ix2 p k) := by
  unfold k0_pay2
  rw [shapeCast_self]
  rfl

/-- The candidate exponents of a column of scales: `k - 125` where the scale is below `2 ^ (k - 125)`, else `128`. -/
def cand (b : FVec Ideal S4096x1 .f32) (d : FVec Ideal S4096x254 .f32) : FVec Ideal S4096x254 .f32 :=
  select (cmpf .olt (broadcastTo S4096x254 b broadcasts_S4096x1_S4096x254) (exp2 d)) d
    (broadcast S4096x254 (Scalar.ofBits .f32 0x43000000#32))

theorem cand_apply (b : FVec Ideal S4096x1 .f32) (p : Fin 4096) (x : Fin 254) (y : EReal) (hb : b (ix2 p 0) = y) :
    cand b (subf (k0_pay11 (F := Ideal)) (k0_pay12 (F := Ideal))) (ix2 p x)
      = if y < FloatOps.exp2 (F := Ideal) (φ := .f32) (FloatOps.sitofp (F := Ideal) FTy.f32 (BitVec.ofNat 32 ↑x) - Ideal.ofBits .f32 1123680256#32)
        then FloatOps.sitofp (F := Ideal) FTy.f32 (BitVec.ofNat 32 ↑x) - Ideal.ofBits .f32 1123680256#32 else Ideal.ofBits .f32 1124073472#32 := by
  pointwise [cand, k0_pay11, k0_pay12, hb]

/-- The exponent of a column of scales from the column's vector and its candidates. -/
def expo (a : IVec S4096x1 1) (b : FVec Ideal S4096x1 .f32) (v : FVec Ideal S4096x254 .f32) : FVec Ideal S4096x1 .f32 :=
  select a (broadcast S4096x1 (Scalar.ofBits .f32 0x00000000#32))
    (select (ori (cmpf .olt b (broadcast S4096x1 (Scalar.ofBits .f32 0x00800000#32))) (cmpf .oeq b (broadcast S4096x1 (Scalar.ofBits .f32 0x7F800000#32))))
      (broadcast S4096x1 (Scalar.ofBits .f32 0x00000000#32))
      (shapeCast S4096x1 (multiReduction .minimumf [1] S4096 v 0x7F800000#32 reduces_S4096x254_S4096 (.inl rfl) rfl) shapeCasts_S4096_S4096x1))

theorem expo_apply (a b : FVec Ideal S4096x1 .f32) (p : Fin 4096) (y : EReal) (ha : a (ix2 p 0) = y)
    (hb : b (ix2 p 0) = y * Ideal.ofBits .f32 991054117#32) :
    expo (cmpf .oeq a (broadcast S4096x1 (Scalar.ofBits .f32 0x00000000#32))) b (cand b (subf (k0_pay11 (F := Ideal)) (k0_pay12 (F := Ideal)))) (ix2 p 0) = rE y := by
  have e : shapeCast S4096x1 (multiReduction .minimumf [1] S4096 (cand b (subf (k0_pay11 (F := Ideal)) (k0_pay12 (F := Ideal)))) 0x7F800000#32 reduces_S4096x254_S4096 (.inl rfl) rfl) shapeCasts_S4096_S4096x1 (ix2 p 0)
    = Finset.fold min (Ideal.ofBits FTy.f32 2139095040#32) (fun x => (cand b (subf (k0_pay11 (F := Ideal)) (k0_pay12 (F := Ideal))) (ix2 p x))) Finset.univ := by
      rw [col_apply, rmin]
  simp only [cand_apply b p _ _ hb] at e
  unfold expo
  generalize shapeCast S4096x1 (multiReduction .minimumf [1] S4096 (cand b (subf (k0_pay11 (F := Ideal)) (k0_pay12 (F := Ideal)))) 0x7F800000#32 reduces_S4096x254_S4096 (.inl rfl) rfl) shapeCasts_S4096_S4096x1 = r at e ⊢
  pointwise [ha, hb, e]
  unfold rE rFrexp
  with_reducible rfl

theorem pay13_eq (a : IVec S4096x1 1) (b : FVec Ideal S4096x1 .f32) (c d : FVec Ideal S4096x254 .f32) :
    k0_pay13 a b c d = expo a b (cand b (subf c d)) := rfl
/-- The greatest magnitudes of the activations' rows, as a column. -/
def xmax (v : FVec Ideal S4096x7168 .bf16) : FVec Ideal S4096x1 .f32 :=
  shapeCast S4096x1 (multiReduction .maximumf [1] S4096 (absf (k0_pay2 (F := Ideal) v)) 0xFF800000#32 reduces_S4096x7168_S4096 (.inl rfl) rfl) shapeCasts_S4096_S4096x1

theorem xmax_apply (v : FVec Ideal S4096x7168 .bf16) (p : Fin 4096) : xmax v (ix2 p 0) = rowMax fun k => v (ix2 p k) := by
  unfold xmax
  rw [col_apply, rmax_x]
  simp only [pay2_apply]

/-- The exponents of the scales of rows of greatest magnitudes `r`. -/
def expoOf (r : FVec Ideal S4096x1 .f32) : FVec Ideal S4096x1 .f32 :=
  expo (cmpf .oeq r (broadcast S4096x1 (Scalar.ofBits .f32 0x00000000#32)))
    (mulf r (broadcast S4096x1 (Scalar.ofBits .f32 0x3B124925#32)))
    (cand (mulf r (broadcast S4096x1 (Scalar.ofBits .f32 0x3B124925#32))) (subf (k0_pay11 (F := Ideal)) (k0_pay12 (F := Ideal))))

theorem expoOf_apply (r : FVec Ideal S4096x1 .f32) (p : Fin 4096) (m : EReal) (h : r (ix2 p 0) = m) : expoOf r (ix2 p 0) = rE m := by
  unfold expoOf
  refine expo_apply _ _ p _ h ?_
  pointwise [h]

theorem pay3_eq (v : FVec Ideal S4096x7168 .bf16) : k0_pay3 (F := Ideal) v = expoOf (xmax v) := rfl

/-- The exponent of the activations' rows. -/
theorem pay3_apply (v : FVec Ideal S4096x7168 .bf16) (p : Fin 4096) :
    k0_pay3 (F := Ideal) v (ix2 p 0) = rE (rowMax fun k => v (ix2 p k)) :=
  (congrFun (pay3_eq v) _).trans (expoOf_apply _ p _ (xmax_apply v p))

/-- A column of powers of two. -/
theorem pay6_apply (v : FVec Ideal S4096x1 .f32) (p : Fin 4096) : k0_pay6 (F := Ideal) v (ix2 p 0) = rP (v (ix2 p 0)) := by
  pointwise [k0_pay6]
  unfold rP
  with_reducible rfl

/-- A column subtracted from zero. -/
def negc (e : FVec Ideal S4096x1 .f32) : FVec Ideal S4096x1 .f32 := subf (broadcast S4096x1 (Scalar.ofBits .f32 0x00000000#32)) e
theorem negc_apply (e : FVec Ideal S4096x1 .f32) (p : Fin 4096) : negc e (ix2 p 0) = 0 - e (ix2 p 0) := by
  pointwise [negc]

/-- Rows times a column. -/
def scaled (u : FVec Ideal S4096x7168 .f32) (i : FVec Ideal S4096x1 .f32) : FVec Ideal S4096x7168 .f32 :=
  mulf u (broadcastTo S4096x7168 i broadcasts_S4096x1_S4096x7168)
theorem scaled_apply (u : FVec Ideal S4096x7168 .f32) (i : FVec Ideal S4096x1 .f32) (p : Fin 4096) (k : Fin 7168) :
    scaled u i (ix2 p k) = u (ix2 p k) * i (ix2 p 0) := by
  pointwise [scaled]

theorem pay4_eq (v : FVec Ideal S4096x7168 .bf16) :
    k0_pay4 (F := Ideal) v = scaled (k0_pay2 (F := Ideal) v) (k0_pay6 (F := Ideal) (negc (k0_pay3 (F := Ideal) v))) := rfl

theorem pay4_apply (v : FVec Ideal S4096x7168 .bf16) (p : Fin 4096) (k : Fin 7168) :
    k0_pay4 (F := Ideal) v (ix2 p k) = v (ix2 p k) * rP (0 - rE (rowMax fun k => v (ix2 p k))) := by
  rw [pay4_eq, scaled_apply, pay2_apply, pay6_apply, negc_apply, pay3_apply]

theorem clip_apply (u : FVec Ideal S4096x7168 .f32) (p : Fin 4096) (k : Fin 7168) :
    k0_pay5 (F := Ideal) u (ix2 p k) = min (Ideal.ofBits .f32 1138753536#32) (max (Ideal.ofBits .f32 3286237184#32) (u (ix2 p k))) := by
  unfold k0_pay5
  pointwise

/-- The codes of the activations. -/
theorem pay5_apply (v : FVec Ideal S4096x7168 .bf16) (p : Fin 4096) (k : Fin 7168) :
    k0_pay5 (F := Ideal) (k0_pay4 v) (ix2 p k) = xCode (fun k => v (ix2 p k)) k := by
  rw [clip_apply, pay4_apply]
  unfold xCode code
  with_reducible rfl

/-- The hidden rows from the codes and the scales. -/
theorem pay7_of (e : FVec Ideal S4096x1 .f32) (u : FVec Ideal S4096x7168 .f32) (w : FVec Ideal S7168x10240 .fp8e4m3) (s : FVec Ideal S1x10240 .f32)
    (p : Fin 4096) (n : Fin 5120) (x : Fin 7168 → EReal)
    (h5 : ∀ k, k0_pay5 (F := Ideal) u (ix2 p k) = xCode x k) (h6 : k0_pay6 (F := Ideal) e (ix2 p 0) = xScale x) :
    k0_pay7 (F := Ideal) e u w s (ix2 p n) = hid x (fun k n => w (ix2 k n)) (fun n => s (ix2 0 n)) n := by
  pointwise [k0_pay7, h5, h6]
  unfold hid lin
  with_reducible rfl

/-- The hidden rows. -/
theorem pay7_apply (v : FVec Ideal S4096x7168 .bf16) (w : FVec Ideal S7168x10240 .fp8e4m3) (s : FVec Ideal S1x10240 .f32) (p : Fin 4096) (n : Fin 5120) :
    k0_pay7 (F := Ideal) (k0_pay3 v) (k0_pay4 v) w s (ix2 p n)
      = hid (fun k => v (ix2 p k)) (fun k n => w (ix2 k n)) (fun n => s (ix2 0 n)) n :=
  pay7_of _ _ w s p n _ (fun k => pay5_apply v p k) ((pay6_apply _ p).trans (congrArg rP (pay3_apply v p)))

/-- The greatest magnitudes of the hidden rows, as a column. -/
theorem hmax_apply (h : FVec Ideal S4096x5120 .f32) (p : Fin 4096) (y : Fin 5120 → EReal) (hy : ∀ n, h (ix2 p n) = y n) :
    shapeCast S4096x1 (multiReduction .maximumf [1] S4096 (absf h) 0xFF800000#32 reduces_S4096x5120_S4096 (.inl rfl) rfl) shapeCasts_S4096_S4096x1 (ix2 p 0)
      = rowMax y := by
  rw [col_apply, rmax_h, funext hy]

theorem pay8_eq (e : FVec Ideal S4096x1 .f32) (u : FVec Ideal S4096x7168 .f32) (w : FVec Ideal S7168x10240 .fp8e4m3) (s : FVec Ideal S1x10240 .f32) :
    k0_pay8 (F := Ideal) e u w s = shapeCast S4096x1 (multiReduction .maximumf [1] S4096 (absf (k0_pay7 (F := Ideal) e u w s)) 0xFF800000#32 reduces_S4096x5120_S4096 (.inl rfl) rfl) shapeCasts_S4096_S4096x1 := rfl

theorem pay13_eq' (e : FVec Ideal S4096x1 .f32) (u : FVec Ideal S4096x7168 .f32) (w : FVec Ideal S7168x10240 .fp8e4m3) (s : FVec Ideal S1x10240 .f32) :
    k0_pay13 (F := Ideal) (k0_pay9 (F := Ideal) e u w s) (k0_pay10 (F := Ideal) e u w s) k0_pay11 k0_pay12 = expoOf (k0_pay8 (F := Ideal) e u w s) := rfl

/-- The exponent of the hidden rows. -/
theorem pay13_apply (v : FVec Ideal S4096x7168 .bf16) (w : FVec Ideal S7168x10240 .fp8e4m3) (s : FVec Ideal S1x10240 .f32) (p : Fin 4096) :
    k0_pay13 (F := Ideal) (k0_pay9 (F := Ideal) (k0_pay3 v) (k0_pay4 v) w s) (k0_pay10 (F := Ideal) (k0_pay3 v) (k0_pay4 v) w s) k0_pay11 k0_pay12 (ix2 p 0)
      = rE (rowMax (hid (fun k => v (ix2 p k)) (fun k n => w (ix2 k n)) (fun n => s (ix2 0 n)))) :=
  (congrFun (pay13_eq' _ _ w s) _).trans (expoOf_apply _ p _ ((congrFun (pay8_eq _ _ w s) _).trans
    (hmax_apply _ p _ fun n => pay7_apply v w s p n)))

/-- Hidden rows times a column, clipped. -/
def hclip (h : FVec Ideal S4096x5120 .f32) (i : FVec Ideal S4096x1 .f32) : FVec Ideal S4096x5120 .fp8e4m3 :=
  truncf .fp8e4m3 (minimumf (broadcast S4096x5120 (Scalar.ofBits .f32 0x43E00000#32)) (maximumf (broadcast S4096x5120 (Scalar.ofBits .f32 0xC3E00000#32))
    (mulf h (broadcastTo S4096x5120 i broadcasts_S4096x1_S4096x5120)))) bitsLt_fp8e4m3_f32
theorem hclip_apply (h : FVec Ideal S4096x5120 .f32) (i : FVec Ideal S4096x1 .f32) (p : Fin 4096) (n : Fin 5120) (m : EReal)
    (hi : i (ix2 p 0) = rP (0 - rE m)) : hclip h i (ix2 p n) = code m (h (ix2 p n)) := by
  pointwise [hclip, hi]
  unfold code
  with_reducible rfl

theorem pay14_eq (h : FVec Ideal S4096x5120 .f32) (a : IVec S4096x1 1) (b : FVec Ideal S4096x1 .f32) (c d : FVec Ideal S4096x254 .f32) :
    k0_pay14 (F := Ideal) h a b c d = hclip h (k0_pay6 (F := Ideal) (negc (k0_pay13 (F := Ideal) a b c d))) := rfl

/-- The codes of the hidden rows. -/
theorem pay14_apply (h : FVec Ideal S4096x5120 .f32) (a : IVec S4096x1 1) (b : FVec Ideal S4096x1 .f32) (c d : FVec Ideal S4096x254 .f32)
    (p : Fin 4096) (n : Fin 5120) (m : EReal) (he : k0_pay13 (F := Ideal) a b c d (ix2 p 0) = rE m) :
    k0_pay14 (F := Ideal) h a b c d (ix2 p n) = code m (h (ix2 p n)) :=
  (congrFun (pay14_eq h a b c d) _).trans (hclip_apply h _ p n m (by rw [pay6_apply, negc_apply, he]))

theorem pay1_eq (a : IVec S4096x1 1) (b : FVec Ideal S4096x1 .f32) (c d : FVec Ideal S4096x254 .f32) :
    k0_pay1 (F := Ideal) (k0_pay15 a b c d) (k0_pay16 a b c d) k0_pay17 = k0_pay6 (F := Ideal) (k0_pay13 (F := Ideal) a b c d) := rfl

/-- The scales of the hidden rows. -/
theorem pay1_apply (a : IVec S4096x1 1) (b : FVec Ideal S4096x1 .f32) (c d : FVec Ideal S4096x254 .f32)
    (p : Fin 4096) (m : EReal) (he : k0_pay13 (F := Ideal) a b c d (ix2 p 0) = m) :
    k0_pay1 (F := Ideal) (k0_pay15 a b c d) (k0_pay16 a b c d) k0_pay17 (ix2 p 0) = rP m :=
  (congrFun (pay1_eq a b c d) _).trans ((pay6_apply _ p).trans (congrArg rP he))

end Cert.ReferenceIdeal.Hand
-- ==== Proof.RefValue.lean ====
module

public import proofs.«01_k».proof.Proof.RefPure
public import Idealize.ShloMosaic.Lib.Claim

@[expose] public section

set_option maxRecDepth 16384
noncomputable section
open Idealize.ShloMosaic Idealize.ShloMosaic.TcCoe Idealize.SL.Sem
open Idealize.ShloMosaic.Pipeline (Dat)
namespace Cert.ReferenceIdeal.Hand
open Cert.ReferenceIdeal Cert.ReferenceIdeal.Gen Cert.Quant Cert.Spec
variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem iblk0 (c : Dev nD) (t : Fin cfg0.N) : iblk m c 0 t = V m c main_v0 := by blk_ext! [iblk, idx t]
theorem iblk1 (c : Dev nD) (t : Fin cfg0.N) : iblk m c 1 t = V m c main_arg1 := by blk_ext! [iblk, idx t]
theorem iblk2 (c : Dev nD) (t : Fin cfg0.N) : iblk m c 2 t = V m c main_v1 := by blk_ext! [iblk, idx t]

variable (X : FVec Ideal S4096x7168 .bf16) (W : FVec Ideal S7168x10240 .fp8e4m3) (S : FVec Ideal S1x10240 .f32)

theorem z2 : (![0, 0] : Fin 2 → ℕ) = fun _ => 0 := by funext i; fin_cases i <;> rfl

theorem p18 : k0_pay18 (F := Ideal) X W S = k0_pay3 X := by
  unfold k0_pay18; rw [View.ld_unit_zero z2]
theorem p19 : k0_pay19 (F := Ideal) X W S = k0_pay4 X := by
  unfold k0_pay19; rw [View.ld_unit_zero z2]
theorem p20 : k0_pay20 (F := Ideal) X W S = k0_pay9 (F := Ideal) (k0_pay3 X) (k0_pay4 X) W S := by
  unfold k0_pay20; rw [View.ld_unit_zero z2, View.ld_unit_zero z2, p18, p19]
theorem p21 : k0_pay21 (F := Ideal) X W S = k0_pay10 (F := Ideal) (k0_pay3 X) (k0_pay4 X) W S := by
  unfold k0_pay21; rw [View.ld_unit_zero z2, View.ld_unit_zero z2, p18, p19]

theorem out3 (j : S4096x1.Idx) : k0_pay1 (F := Ideal) (k0_pay15 (F := Ideal) (k0_pay20 (F := Ideal) X W S) (k0_pay21 (F := Ideal) X W S) (k0_pay22 (F := Ideal) X W S) (k0_pay23 (F := Ideal) X W S))
    (k0_pay16 (F := Ideal) (k0_pay20 (F := Ideal) X W S) (k0_pay21 (F := Ideal) X W S) (k0_pay22 (F := Ideal) X W S) (k0_pay23 (F := Ideal) X W S)) k0_pay17 j = HS X W S j := by
  rw [p20, p21]
  obtain ⟨p, q, rfl⟩ : ∃ (p : Fin 4096) (q : Fin 1), j = ix2 p q := ⟨j 0, j 1, eq_ix2 j⟩
  obtain rfl : q = 0 := Subsingleton.elim _ _
  exact pay1_apply _ _ _ _ p _ (pay13_apply X W S p)

theorem out4 (j : S4096x5120.Idx) : k0_pay14 (F := Ideal) (k0_pay7 (k0_pay18 (F := Ideal) X W S) (k0_pay19 (F := Ideal) X W S) W S) (k0_pay20 (F := Ideal) X W S) (k0_pay21 (F := Ideal) X W S) (k0_pay22 (F := Ideal) X W S) (k0_pay23 (F := Ideal) X W S) j
    = HC X W S j := by
  rw [p20, p21, p18, p19]
  obtain ⟨p, q, rfl⟩ : ∃ (p : Fin 4096) (q : Fin 5120), j = ix2 p q := ⟨j 0, j 1, eq_ix2 j⟩
  refine (pay14_apply _ _ _ _ _ p q _ (pay13_apply X W S p)).trans ?_
  rw [pay7_apply]
  rfl

theorem out5 (j : S4096x7168.Idx) : k0_pay5 (F := Ideal) (k0_pay19 (F := Ideal) X W S) j = XC X j := by
  rw [p19]
  obtain ⟨p, q, rfl⟩ : ∃ (p : Fin 4096) (q : Fin 7168), j = ix2 p q := ⟨j 0, j 1, eq_ix2 j⟩
  exact pay5_apply X p q

theorem out6 (j : S4096x1.Idx) : k0_pay6 (F := Ideal) (k0_pay18 (F := Ideal) X W S) j = XS X j := by
  rw [p18]
  obtain ⟨p, q, rfl⟩ : ∃ (p : Fin 4096) (q : Fin 1), j = ix2 p q := ⟨j 0, j 1, eq_ix2 j⟩
  obtain rfl : q = 0 := Subsingleton.elim _ _
  exact (pay6_apply _ p).trans (congrArg rP (pay3_apply X p))

/-- The reference's first result: the scales of the hidden rows. -/
theorem final3 (c : Dev nD) : (dats m 0 c).arrAt 3 (cfgs 0).N = HS (V m c main_v0) (V m c main_arg1) (V m c main_v1) := by
  refine (dats m 0 c).arrAt_eq_of_after_last 3 t0_0 (by decide +kernel) _ fun j => ?_
  blk_simp
  rw [after0_3]
  frame_out
  rw [iblk0, iblk1, iblk2]
  exact out3 _ _ _ j

/-- The reference's second result: the codes of the hidden rows. -/
theorem final4 (c : Dev nD) : (dats m 0 c).arrAt 4 (cfgs 0).N = HC (V m c main_v0) (V m c main_arg1) (V m c main_v1) := by
  refine (dats m 0 c).arrAt_eq_of_after_last 4 t0_0 (by decide +kernel) _ fun j => ?_
  blk_simp
  rw [after0_4]
  frame_out
  rw [iblk0, iblk1, iblk2]
  exact out4 _ _ _ j

/-- The reference's third result: the codes of the activations. -/
theorem final5 (c : Dev nD) : (dats m 0 c).arrAt 5 (cfgs 0).N = XC (V m c main_v0) := by
  refine (dats m 0 c).arrAt_eq_of_after_last 5 t0_0 (by decide +kernel) _ fun j => ?_
  blk_simp
  rw [after0_5]
  frame_out
  rw [iblk0, iblk1, iblk2]
  exact out5 _ _ _ j

/-- The reference's fourth result: the scales of the activations. -/
theorem final6 (c : Dev nD) : (dats m 0 c).arrAt 6 (cfgs 0).N = XS (V m c main_v0) := by
  refine (dats m 0 c).arrAt_eq_of_after_last 6 t0_0 (by decide +kernel) _ fun j => ?_
  blk_simp
  rw [after0_6]
  frame_out
  rw [iblk0, iblk1, iblk2]
  exact out6 _ _ _ j

end Cert.ReferenceIdeal.Hand
-- ==== Proof.Alg.lean ====
module

public import proofs.«01_k».proof.Defs
public import proofs.«01_k».proof.Proof.Gen.KernelIdeal
public import proofs.«01_k».proof.Proof.Gen.ReferenceIdeal
public import proofs.«01_k».proof.Proof.KiArr
public import proofs.«01_k».proof.Proof.RefValue

@[expose] public section

set_option maxRecDepth 16384

/-! # Kernel and reference end with equal results over the extended reals -/

noncomputable section
open Idealize.ShloMosaic Idealize.ShloMosaic.TcCoe Idealize.SL.Sem
namespace Cert.Proof

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- From equal arguments both regions find the same activations. -/
theorem operands_x (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)) :
    ReferenceIdeal.Gen.V m' c ReferenceIdeal.main_v0 = KernelIdeal.Hand.X m c := by
  unfold KernelIdeal.Hand.X
  entry_read
  rw [h]
  rfl

/-- From equal arguments both regions find the same weights. -/
theorem operands_w (c : Dev KernelIdeal.nD)
    (h : m' ((c.tc : Thread ReferenceIdeal.nD ReferenceIdeal.τ).loc ReferenceIdeal.main_arg1) = m ((c.tc : Thread KernelIdeal.nD KernelIdeal.τ).loc KernelIdeal.main_arg1)) :
    ReferenceIdeal.Gen.V m' c ReferenceIdeal.main_arg1 = KernelIdeal.Hand.W m c :=
  (ReferenceIdeal.Gen.V_main_arg1 m' c).trans (h.trans (KernelIdeal.Gen.V_main_arg1 m c).symm)

/-- From equal arguments both regions find the same weight scales. -/
theorem operands_s (c : Dev KernelIdeal.nD)
    (h : m' ((c.tc : Thread ReferenceIdeal.nD ReferenceIdeal.τ).loc ReferenceIdeal.main_arg2) = m ((c.tc : Thread KernelIdeal.nD KernelIdeal.τ).loc KernelIdeal.main_arg2)) :
    ReferenceIdeal.Gen.V m' c ReferenceIdeal.main_v1 = KernelIdeal.Hand.S m c := by
  unfold KernelIdeal.Hand.S
  entry_read
  rw [h]
  rfl

/-- From memories that agree on the arguments the exact reading of the kernel and the reference both run to their end,
    with equal hidden scales, hidden codes, activation codes and activation scales, the arguments as they were. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.Spec.HS (KernelIdeal.Hand.X m c) (KernelIdeal.Hand.W m c) (KernelIdeal.Hand.S m c),
    fun c => Cert.Spec.HC (KernelIdeal.Hand.X m c) (KernelIdeal.Hand.W m c) (KernelIdeal.Hand.S m c),
    fun c => Cert.Spec.XC (KernelIdeal.Hand.X m c), fun c => Cert.Spec.XS (KernelIdeal.Hand.X m c), ?_, ?_⟩
  · refine (θ_run KernelIdeal.defs _ _).mono (fun r h c => ?_) (KernelIdeal.Hand.run_main m g)
    obtain ⟨h0, h1, h2, h3⟩ := KernelIdeal.Hand.results h.1 c
    exact ⟨h0, h1, h2, h3, KernelIdeal.Hand.args_kept h.1 c⟩
  · refine (θ_run ReferenceIdeal.defs _ _).mono (fun r h c => ?_)
      (θ_run_and (ReferenceIdeal.Gen.run_main m' g') (ReferenceIdeal.Gen.unchanged m' g'))
    have ex := operands_x m m' c (hag c).1
    have ew := operands_w m m' c (hag c).2.1
    have es := operands_s m m' c (hag c).2.2
    have f3 := ReferenceIdeal.Hand.final3 m' c
    have f4 := ReferenceIdeal.Hand.final4 m' c
    have f5 := ReferenceIdeal.Hand.final5 m' c
    have f6 := ReferenceIdeal.Hand.final6 m' c
    rw [ex, ew, es] at f3 f4
    rw [ex] at f5 f6
    exact ⟨((h.1 c).1 3).trans f3, ((h.1 c).1 4).trans f4, ((h.1 c).1 5).trans f5, ((h.1 c).1 6).trans f6, h.2 c⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KBody
public import proofs.«01_k».proof.Proof.KiBody
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The kernel runs to its end, leaves its arguments as they were and every semaphore at zero. -/
theorem frame_kernel : Cert.quiescent_Kernel (hKernel := Cert.Kernel.Gen.facts) := fun m g _ =>
  (θ_run Cert.Kernel.defs _ _).mono (fun _ h => ⟨fun c => Cert.Kernel.Hand.args_kept h.1 c, h.2⟩) (Cert.Kernel.Hand.run_main m g)

/-- The exact reading of the kernel runs to its end, leaves its arguments as they were and every semaphore at zero. -/
theorem frame_kernelIdeal : Cert.quiescent_KernelIdeal (hKernelIdeal := Cert.KernelIdeal.Gen.facts) := fun m g _ =>
  (θ_run Cert.KernelIdeal.defs _ _).mono (fun _ h => ⟨fun c => Cert.KernelIdeal.Hand.args_kept h.1 c, h.2⟩) (Cert.KernelIdeal.Hand.run_main m g)

/-- The claims. -/
theorem claim : Cert.Claim := ⟨Cert.Kernel.Gen.facts, Cert.KernelIdeal.Gen.facts, Cert.ReferenceIdeal.Gen.facts,
  frame_kernel, frame_kernelIdeal, fun m g _ => Cert.ReferenceIdeal.Gen.frame m g, trivial, algebraic⟩

end Cert.Proof

end
